-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_inputs [hPre_finite_inputs : Cert.Pre_finite_inputs.Facts] (m : (ℓ : Loc Cert.CrossIdeal.nD Cert.CrossIdeal.τ Cert.CrossIdeal.sig) → Buf (Elt Ideal) ℓ) : Prop :=
  ∀ c : Dev Cert.CrossIdeal.nD,
    (Cert.Pre_finite_inputs.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_inputs [hPre_finite_inputs : Cert.Pre_finite_inputs.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_inputs.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossIdeal_pre_finite_inputs [hCrossIdeal : Cert.CrossIdeal.Facts] [hPre_finite_inputs : Cert.Pre_finite_inputs.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_inputs m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_CrossRefIdeal_pre_finite_inputs [hCrossRefIdeal : Cert.CrossRefIdeal.Facts] [hPre_finite_inputs : Cert.Pre_finite_inputs.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_inputs m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_Diff_DiffIdeal : Prop :=
  IdealRules.named_const.Statement Cert.DiffIdeal.κ "log2e" .f32 0x3FB8AA3B#32 (((Real.log 2)⁻¹ : ℝ) : EReal)
  ∧ IdealRules.named_const.Statement Cert.DiffIdeal.κ "mask" .f32 0xF149F2CA#32 ⊥

def preserves_Dil_DilIdeal : Prop :=
  True

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v35) = v0 c
          ∧ r.2.mem ((c.tc : Thread Cert.InprojRefIdeal.nD Cert.InprojRefIdeal.τ).loc Cert.InprojRefIdeal.main_v33) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v12) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v2_0)) (v1 : (c : Dev Cert.MemkvIdeal.nD) → Buf (Elt Ideal) ((c.tc : Thread Cert.MemkvIdeal.nD Cert.MemkvIdeal.τ).loc Cert.MemkvIdeal.main_v2_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v2_0) = v0 c
          ∧ r.2.mem ((c.tc : Thread Cert.MemkvIdeal.nD Cert.MemkvIdeal.τ).loc Cert.MemkvIdeal.main_v2_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v18) = v0 c
          ∧ r.2.mem ((c.tc : Thread Cert.MemkvRefIdeal.nD Cert.MemkvRefIdeal.τ).loc Cert.MemkvRefIdeal.main_v20) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Cross_CrossIdeal : Prop :=
  True

def algebraic_CrossIdeal_CrossRefIdeal_pre_finite_inputs [hCrossIdeal : Cert.CrossIdeal.Facts] [hCrossRefIdeal : Cert.CrossRefIdeal.Facts] [hPre_finite_inputs : Cert.Pre_finite_inputs.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_inputs m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)) →
    ∃ (v0 : (c : Dev Cert.CrossIdeal.nD) → Buf (Elt Ideal) ((c.tc : Thread Cert.CrossIdeal.nD Cert.CrossIdeal.τ).loc Cert.CrossIdeal.main_v3)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v39) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hDiff : Cert.Diff.Facts) (hDiffIdeal : Cert.DiffIdeal.Facts) (hDil : Cert.Dil.Facts) (hDilIdeal : Cert.DilIdeal.Facts) (hInproj : Cert.Inproj.Facts) (hInprojIdeal : Cert.InprojIdeal.Facts) (hInprojRefIdeal : Cert.InprojRefIdeal.Facts) (hMix : Cert.Mix.Facts) (hMixIdeal : Cert.MixIdeal.Facts) (hMixRefIdeal : Cert.MixRefIdeal.Facts) (hMemkv : Cert.Memkv.Facts) (hMemkvIdeal : Cert.MemkvIdeal.Facts) (hMemkvRefIdeal : Cert.MemkvRefIdeal.Facts) (hCross : Cert.Cross.Facts) (hCrossIdeal : Cert.CrossIdeal.Facts) (hCrossRefIdeal : Cert.CrossRefIdeal.Facts) (hFfn : Cert.Ffn.Facts) (hFfnIdeal : Cert.FfnIdeal.Facts) (hFfnRefIdeal : Cert.FfnRefIdeal.Facts) (hPre_finite_inputs : Cert.Pre_finite_inputs.Facts),
    quiescent_Diff (hDiff := hDiff)
    ∧ quiescent_DiffIdeal (hDiffIdeal := hDiffIdeal)
    ∧ quiescent_Dil (hDil := hDil)
    ∧ quiescent_DilIdeal (hDilIdeal := hDilIdeal)
    ∧ quiescent_Inproj (hInproj := hInproj)
    ∧ quiescent_InprojIdeal (hInprojIdeal := hInprojIdeal)
    ∧ quiescent_InprojRefIdeal (hInprojRefIdeal := hInprojRefIdeal)
    ∧ quiescent_Mix (hMix := hMix)
    ∧ quiescent_MixIdeal (hMixIdeal := hMixIdeal)
    ∧ quiescent_MixRefIdeal (hMixRefIdeal := hMixRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Cross (hCross := hCross)
    ∧ quiescent_CrossIdeal (hCrossIdeal := hCrossIdeal)
    ∧ quiescent_CrossIdeal_pre_finite_inputs (hCrossIdeal := hCrossIdeal) (hPre_finite_inputs := hPre_finite_inputs)
    ∧ quiescent_CrossRefIdeal (hCrossRefIdeal := hCrossRefIdeal)
    ∧ quiescent_CrossRefIdeal_pre_finite_inputs (hCrossRefIdeal := hCrossRefIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ preserves_Diff_DiffIdeal
    ∧ preserves_Dil_DilIdeal
    ∧ preserves_Inproj_InprojIdeal
    ∧ algebraic_InprojIdeal_InprojRefIdeal (hInprojIdeal := hInprojIdeal) (hInprojRefIdeal := hInprojRefIdeal)
    ∧ preserves_Mix_MixIdeal
    ∧ algebraic_MixIdeal_MixRefIdeal (hMixIdeal := hMixIdeal) (hMixRefIdeal := hMixRefIdeal)
    ∧ preserves_Memkv_MemkvIdeal
    ∧ algebraic_MemkvIdeal_MemkvRefIdeal (hMemkvIdeal := hMemkvIdeal) (hMemkvRefIdeal := hMemkvRefIdeal)
    ∧ preserves_Cross_CrossIdeal
    ∧ algebraic_CrossIdeal_CrossRefIdeal_pre_finite_inputs (hCrossIdeal := hCrossIdeal) (hCrossRefIdeal := hCrossRefIdeal) (hPre_finite_inputs := hPre_finite_inputs)
    ∧ preserves_Ffn_FfnIdeal
    ∧ algebraic_FfnIdeal_FfnRefIdeal (hFfnIdeal := hFfnIdeal) (hFfnRefIdeal := hFfnRefIdeal)
-- ==== Pre_finite_inputs.lean ====
abbrev S2x8192x1024 : Shape := ⟨3, ![2, 8192, 1024]⟩
abbrev S1024 : Shape := ⟨1, ![1024]⟩
abbrev S1024x1024 : Shape := ⟨2, ![1024, 1024]⟩
abbrev S2x1024x256 : Shape := ⟨3, ![2, 1024, 256]⟩
abbrev S2x256x1024 : Shape := ⟨3, ![2, 256, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bitsLt_bf16_f32 : FTy.bits .bf16 < FTy.bits .f32
  bcast_S_S2x1024x256 : S_.BroadcastsInDim S2x1024x256 (![] : Fin 0 → Fin S2x1024x256.rank)
  reducesTo_S2x1024x256_S_d0_1_2 : S2x1024x256.ReducesTo [0, 1, 2] S_

variable [Facts]

def fn {F : FTy → Type} [FloatOps F] (main_arg0 : FVec F S2x8192x1024 .f32) (main_arg1 : FVec F S1024 .f32) (main_arg2 : FVec F S1024x1024 .f32) (main_arg3 : FVec F S2x1024x256 .bf16) (main_arg4 : FVec F S2x256x1024 .bf16) (main_arg5 : FVec F S1024x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x1024x256 .f32 := (extf .f32 · bitsLt_bf16_f32) main_arg3
  let main_v10 : FVec F S2x1024x256 .f32 := Host.absf main_v9
  let main_cst_2 : FVec F S_ .f32 := constant S_ .f32 0x7F800000#32
  let main_v11 : FVec F S2x1024x256 .f32 := broadcastInDim S2x1024x256 ![] bcast_S_S2x1024x256 main_cst_2
  let main_v12 : IVec S2x1024x256 1 := cmpf .olt main_v10 main_v11
  let main_c_3 : IVec S_ 1 := constantI S_ 1 1#1
  let main_v13 : IVec S_ 1 := (fun x v => Host.reduce IntOp.andi x v reducesTo_S2x1024x256_S_d0_1_2 h_S_) main_v12 main_c_3
  let main_v14 : IVec S_ 1 := andi main_v8 main_v13
  main_v14
-- ==== Diff.lean ====
abbrev S2x8192x7680 : Shape := ⟨3, ![2, 8192, 7680]⟩
abbrev S64 : Shape := ⟨1, ![64]⟩
abbrev S128 : Shape := ⟨1, ![128]⟩
abbrev S8 : Shape := ⟨1, ![8]⟩
abbrev S_ : Shape := ⟨0, ![]⟩
abbrev S1x64 : Shape := ⟨2, ![1, 64]⟩
abbrev S1x128 : Shape := ⟨2, ![1, 128]⟩
abbrev S2x8192x1024 : Shape := ⟨3, ![2, 8192, 1024]⟩
abbrev S1x8192x128 : Shape := ⟨3, ![1, 8192, 128]⟩
abbrev S2x8x1024x128 : Shape := ⟨4, ![2, 8, 1024, 128]⟩
abbrev S8x144x1024 : Shape := ⟨3, ![8, 144, 1024]⟩
abbrev S4x2x144x256 : Shape := ⟨4, ![4, 2, 144, 256]⟩
abbrev S2x1024x256 : Shape := ⟨3, ![2, 1024, 256]⟩
abbrev S1 : Shape := ⟨1, ![1]⟩
abbrev S1024x128 : Shape := ⟨2, ![1024, 128]⟩
abbrev S16x1024 : Shape := ⟨2, ![16, 1024]⟩
abbrev S1x1024x128 : Shape := ⟨3, ![1, 1024, 128]⟩
abbrev S1x1x1024x128 : Shape := ⟨4, ![1, 1, 1024, 128]⟩
abbrev S128x1024 : Shape := ⟨2, ![128, 1024]⟩
abbrev S1x128x1024 : Shape := ⟨3, ![1, 128, 1024]⟩
abbrev S1x16x1024 : Shape := ⟨3, ![1, 16, 1024]⟩
abbrev S1x1 : Shape := ⟨2, ![1, 1]⟩
abbrev S256x128 : Shape := ⟨2, ![256, 128]⟩
abbrev S1x256 : Shape := ⟨2, ![1, 256]⟩
abbrev S256x256 : Shape := ⟨2, ![256, 256]⟩
abbrev S1x256x128 : Shape := ⟨3, ![1, 256, 128]⟩
abbrev S128x256 : Shape := ⟨2, ![128, 256]⟩
abbrev S1x1x256x128 : Shape := ⟨4, ![1, 1, 256, 128]⟩
abbrev S1x256x256 : Shape := ⟨3, ![1, 256, 256]⟩
abbrev S256 : Shape := ⟨1, ![256]⟩
abbrev S1x1x512x128 : Shape := ⟨4, ![1, 1, 512, 128]⟩
abbrev S512x128 : Shape := ⟨2, ![512, 128]⟩
abbrev S512x256 : Shape := ⟨2, ![512, 256]⟩
abbrev S1x144x256 : Shape := ⟨3, ![1, 144, 256]⟩
abbrev S144x256 : Shape := ⟨2, ![144, 256]⟩
abbrev S1x1x144x256 : Shape := ⟨4, ![1, 1, 144, 256]⟩
abbrev S1x1x768x128 : Shape := ⟨4, ![1, 1, 768, 128]⟩
abbrev S768x128 : Shape := ⟨2, ![768, 128]⟩
abbrev S768x256 : Shape := ⟨2, ![768, 256]⟩
abbrev S1x512x256 : Shape := ⟨3, ![1, 512, 256]⟩
abbrev S1x144x512 : Shape := ⟨3, ![1, 144, 512]⟩
abbrev S144x512 : Shape := ⟨2, ![144, 512]⟩
abbrev S1024x256 : Shape := ⟨2, ![1024, 256]⟩
abbrev S1x768x256 : Shape := ⟨3, ![1, 768, 256]⟩
abbrev S1x144x768 : Shape := ⟨3, ![1, 144, 768]⟩
abbrev S144x768 : Shape := ⟨2, ![144, 768]⟩
abbrev S1x1024x256 : Shape := ⟨3, ![1, 1024, 256]⟩
abbrev S1x144x1024 : Shape := ⟨3, ![1, 144, 1024]⟩
abbrev S144x1024 : Shape := ⟨2, ![144, 1024]⟩
abbrev S1x1x1x256 : Shape := ⟨4, ![1, 1, 1, 256]⟩
abbrev S1x1x128x256 : Shape := ⟨4, ![1, 1, 128, 256]⟩

abbrev nBuf : Space → Nat
  | .hbm => 26
  | .vmem => 18
  | .smem => 1
  | _ => 0

abbrev bufTy : (tb : Table) → Fin (tcTables nBuf tb) → BufTy
  | .hbm, ⟨0, _⟩ => ⟨S2x8192x7680, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x128, .f32⟩
  | .hbm, ⟨25, _⟩ => ⟨S2x8192x1024, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x8192x128, .bf16⟩
  | .local _ .vmem, ⟨12, _⟩ => ⟨S1x8192x128, .bf16⟩
  | .local _ .vmem, ⟨13, _⟩ => ⟨S2x8x1024x128, .bf16⟩
  | .local _ .vmem, ⟨14, _⟩ => ⟨S8x144x1024, .bf16⟩
  | .local _ .vmem, ⟨15, _⟩ => ⟨S4x2x144x256, .f32⟩
  | .local _ .vmem, ⟨16, _⟩ => ⟨S2x1024x256, .f32⟩
  | .local _ .vmem, ⟨17, _⟩ => ⟨S2x1024x256, .f32⟩
  | .local _ .smem, ⟨0, _⟩ => ⟨S8, .f32⟩
  | _, _ => ⟨S2x8192x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 8], ![false, false]⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_4 : BitVec 32 := 0#32
  let c8_i32 : BitVec 32 := 8#32
  let v41 : BitVec 32 := Scalar.addi c0_i32_4 c8_i32
  let c1_i32_5 : BitVec 32 := 1#32
  ⟨c0_i32_4, v41, c1_i32_5⟩
def k0_mult1 (k0_t1 : Fin k0_t1_loop.trips) : BitVec 32 :=
  let c0_i32_4 : BitVec 32 := 0#32
  let c1_i32_5 : BitVec 32 := 1#32
  let arg17 : BitVec 32 := Scf.iv c0_i32_4 c1_i32_5 k0_t1
  let c1024_i32 : BitVec 32 := 1024#32
  let v70 : BitVec 32 := Scalar.muli arg17 c1024_i32
  v70
def k0_off2 (k0_t1 : Fin k0_t1_loop.trips) : Fin 3 → Nat :=
  let c0_23 : Index := 0#32
  let c0_i32_4 : BitVec 32 := 0#32
  let c1_i32_5 : BitVec 32 := 1#32
  let arg17 : BitVec 32 := Scf.iv c0_i32_4 c1_i32_5 k0_t1
  let c1024_i32 : BitVec 32 := 1024#32
  let v70 : BitVec 32 := Scalar.muli arg17 c1024_i32
  let v71 : BitVec 32 := v70
  let v72 : Index := Scalar.indexCast v71
  let c0_24 : Index := 0#32
  ![0, v72.toNat, 0]
def k0_off3 (k0_t1 : Fin k0_t1_loop.trips) : Fin 4 → Nat :=
  let c0_27 : Index := 0#32
  let c0_i32_4 : BitVec 32 := 0#32
  let c1_i32_5 : BitVec 32 := 1#32
  let arg17 : BitVec 32 := Scf.iv c0_i32_4 c1_i32_5 k0_t1
  let v83 : Index := Scalar.indexCast arg17
  let c0_28 : Index := 0#32
  let c0_29 : Index := 0#32
  ![0, v83.toNat, 0, 0]
def k0_off4 (k0_t1 : Fin k0_t1_loop.trips) : Fin 4 → Nat :=
  let c1 : Index := 1#32
  let c0_i32_4 : BitVec 32 := 0#32
  let c1_i32_5 : BitVec 32 := 1#32
  let arg17 : BitVec 32 := Scf.iv c0_i32_4 c1_i32_5 k0_t1
  let v88 : Index := Scalar.indexCast arg17
  let c0_30 : Index := 0#32
  let c0_31 : Index := 0#32
  ![1, v88.toNat, 0, 0]
def k0_off5 (k0_t1 : Fin k0_t1_loop.trips) : Fin 3 → Nat :=
  let c0_i32_4 : BitVec 32 := 0#32
  let c1_i32_5 : BitVec 32 := 1#32
  let arg17 : BitVec 32 := Scf.iv c0_i32_4 c1_i32_5 k0_t1
  let v98 : Index := Scalar.indexCast arg17
  let c0_34 : Index := 0#32
  let c0_35 : Index := 0#32
  ![v98.toNat, 0, 0]
def k0_off6 (k0_t1 : Fin k0_t1_loop.trips) : Fin 3 → Nat :=
  let c0_i32_4 : BitVec 32 := 0#32
  let c1_i32_5 : BitVec 32 := 1#32
  let arg17 : BitVec 32 := Scf.iv c0_i32_4 c1_i32_5 k0_t1
  let v102 : Index := Scalar.indexCast arg17
  let c128 : Index := 128#32
  let c0_36 : Index := 0#32
  ![v102.toNat, 128, 0]
@[reducible] def k0_t2_loop : Scf.Loop 32 :=
  let c0_i32_19 : BitVec 32 := 0#32
  let c8_i32_20 : BitVec 32 := 8#32
  let v69 : BitVec 32 := Scalar.addi c0_i32_19 c8_i32_20
  let c1_i32_21 : BitVec 32 := 1#32
  ⟨c0_i32_19, v69, c1_i32_21⟩
def k0_mult2 (k0_t2 : Fin k0_t2_loop.trips) : BitVec 32 :=
  let c0_i32_19 : BitVec 32 := 0#32
  let c1_i32_21 : BitVec 32 := 1#32
  let arg17 : BitVec 32 := Scf.iv c0_i32_19 c1_i32_21 k0_t2
  let c1024_i32 : BitVec 32 := 1024#32
  let v70 : BitVec 32 := Scalar.muli arg17 c1024_i32
  let c0_i32_23 : BitVec 32 := 0#32
  let v71 : BitVec 32 := Scalar.addi v70 c0_i32_23
  v71
def k0_off7 (k0_t2 : Fin k0_t2_loop.trips) (c0_i32_23 : BitVec 32) : Fin 3 → Nat :=
  let c0_24 : Index := 0#32
  let c0_i32_19 : BitVec 32 := 0#32
  let c1_i32_21 : BitVec 32 := 1#32
  let arg17 : BitVec 32 := Scf.iv c0_i32_19 c1_i32_21 k0_t2
  let c1024_i32 : BitVec 32 := 1024#32
  let v70 : BitVec 32 := Scalar.muli arg17 c1024_i32
  let v71 : BitVec 32 := Scalar.addi v70 c0_i32_23
  let v72 : BitVec 32 := v71
  let v73 : Index := Scalar.indexCast v72
  let c0_25 : Index := 0#32
  ![0, v73.toNat, 0]
def k0_mult3 (k0_t2 : Fin k0_t2_loop.trips) : BitVec 32 :=
  let c0_i32_19 : BitVec 32 := 0#32
  let c1_i32_21 : BitVec 32 := 1#32
  let arg17 : BitVec 32 := Scf.iv c0_i32_19 c1_i32_21 k0_t2
  let c1024_i32_28 : BitVec 32 := 1024#32
  let v93 : BitVec 32 := Scalar.muli arg17 c1024_i32_28
  let c256_i32 : BitVec 32 := 256#32
  let v94 : BitVec 32 := Scalar.addi v93 c256_i32
  v94
def k0_mult4 (k0_t2 : Fin k0_t2_loop.trips) : BitVec 32 :=
  let c0_i32_19 : BitVec 32 := 0#32
  let c1_i32_21 : BitVec 32 := 1#32
  let arg17 : BitVec 32 := Scf.iv c0_i32_19 c1_i32_21 k0_t2
  let c1024_i32_35 : BitVec 32 := 1024#32
  let v116 : BitVec 32 := Scalar.muli arg17 c1024_i32_35
  let c512_i32 : BitVec 32 := 512#32
  let v117 : BitVec 32 := Scalar.addi v116 c512_i32
  v117
def k0_mult5 (k0_t2 : Fin k0_t2_loop.trips) : BitVec 32 :=
  let c0_i32_19 : BitVec 32 := 0#32
  let c1_i32_21 : BitVec 32 := 1#32
  let arg17 : BitVec 32 := Scf.iv c0_i32_19 c1_i32_21 k0_t2
  let c1024_i32_42 : BitVec 32 := 1024#32
  let v139 : BitVec 32 := Scalar.muli arg17 c1024_i32_42
  let c768_i32 : BitVec 32 := 768#32
  let v140 : BitVec 32 := Scalar.addi v139 c768_i32
  v140
def k0_off8 (k0_t2 : Fin k0_t2_loop.trips) : Fin 4 → Nat :=
  let c0_49 : Index := 0#32
  let c0_i32_19 : BitVec 32 := 0#32
  let c1_i32_21 : BitVec 32 := 1#32
  let arg17 : BitVec 32 := Scf.iv c0_i32_19 c1_i32_21 k0_t2
  let v162 : Index := Scalar.indexCast arg17
  let c0_50 : Index := 0#32
  let c0_51 : Index := 0#32
  ![0, v162.toNat, 0, 0]
def k0_off9 (k0_t2 : Fin k0_t2_loop.trips) : Fin 4 → Nat :=
  let c1 : Index := 1#32
  let c0_i32_19 : BitVec 32 := 0#32
  let c1_i32_21 : BitVec 32 := 1#32
  let arg17 : BitVec 32 := Scf.iv c0_i32_19 c1_i32_21 k0_t2
  let v173 : Index := Scalar.indexCast arg17
  let c0_58 : Index := 0#32
  let c0_59 : Index := 0#32
  ![1, v173.toNat, 0, 0]
def k0_off10 (k0_t2 : Fin k0_t2_loop.trips) : Fin 4 → Nat :=
  let c0_66 : Index := 0#32
  let c0_i32_19 : BitVec 32 := 0#32
  let c1_i32_21 : BitVec 32 := 1#32
  let arg17 : BitVec 32 := Scf.iv c0_i32_19 c1_i32_21 k0_t2
  let v184 : Index := Scalar.indexCast arg17
  let c0_67 : Index := 0#32
  let c0_68 : Index := 0#32
  ![0, v184.toNat, 0, 0]
def k0_off11 (k0_t2 : Fin k0_t2_loop.trips) : Fin 4 → Nat :=
  let c1_78 : Index := 1#32
  let c0_i32_19 : BitVec 32 := 0#32
  let c1_i32_21 : BitVec 32 := 1#32
  let arg17 : BitVec 32 := Scf.iv c0_i32_19 c1_i32_21 k0_t2
  let v204 : Index := Scalar.indexCast arg17
  let c0_79 : Index := 0#32
  let c0_80 : Index := 0#32
  ![1, v204.toNat, 0, 0]
def k0_off12 (k0_t2 : Fin k0_t2_loop.trips) : Fin 3 → Nat :=
  let c0_i32_19 : BitVec 32 := 0#32
  let c1_i32_21 : BitVec 32 := 1#32
  let arg17 : BitVec 32 := Scf.iv c0_i32_19 c1_i32_21 k0_t2
  let v235 : Index := Scalar.indexCast arg17
  let c0_95 : Index := 0#32
  let c0_96 : Index := 0#32
  ![v235.toNat, 0, 0]
def k0_off13 (k0_t2 : Fin k0_t2_loop.trips) : Fin 4 → Nat :=
  let c0_112 : Index := 0#32
  let c0_i32_19 : BitVec 32 := 0#32
  let c1_i32_21 : BitVec 32 := 1#32
  let arg17 : BitVec 32 := Scf.iv c0_i32_19 c1_i32_21 k0_t2
  let v258 : Index := Scalar.indexCast arg17
  let c0_113 : Index := 0#32
  let c0_114 : Index := 0#32
  ![0, v258.toNat, 0, 0]
def k0_off14 (k0_t2 : Fin k0_t2_loop.trips) : Fin 4 → Nat :=
  let c1_124 : Index := 1#32
  let c0_i32_19 : BitVec 32 := 0#32
  let c1_i32_21 : BitVec 32 := 1#32
  let arg17 : BitVec 32 := Scf.iv c0_i32_19 c1_i32_21 k0_t2
  let v278 : Index := Scalar.indexCast arg17
  let c0_125 : Index := 0#32
  let c0_126 : Index := 0#32
  ![1, v278.toNat, 0, 0]
def k0_off15 (k0_t2 : Fin k0_t2_loop.trips) : Fin 3 → Nat :=
  let c0_i32_19 : BitVec 32 := 0#32
  let c1_i32_21 : BitVec 32 := 1#32
  let arg17 : BitVec 32 := Scf.iv c0_i32_19 c1_i32_21 k0_t2
  let v309 : Index := Scalar.indexCast arg17
  let c0_141 : Index := 0#32
  let c0_142 : Index := 0#32
  ![v309.toNat, 0, 0]
def k0_off16 (k0_t2 : Fin k0_t2_loop.trips) : Fin 4 → Nat :=
  let c0_158 : Index := 0#32
  let c0_i32_19 : BitVec 32 := 0#32
  let c1_i32_21 : BitVec 32 := 1#32
  let arg17 : BitVec 32 := Scf.iv c0_i32_19 c1_i32_21 k0_t2
  let v332 : Index := Scalar.indexCast arg17
  let c0_159 : Index := 0#32
  let c0_160 : Index := 0#32
  ![0, v332.toNat, 0, 0]
def k0_off17 (k0_t2 : Fin k0_t2_loop.trips) : Fin 4 → Nat :=
  let c1_170 : Index := 1#32
  let c0_i32_19 : BitVec 32 := 0#32
  let c1_i32_21 : BitVec 32 := 1#32
  let arg17 : BitVec 32 := Scf.iv c0_i32_19 c1_i32_21 k0_t2
  let v352 : Index := Scalar.indexCast arg17
  let c0_171 : Index := 0#32
  let c0_172 : Index := 0#32
  ![1, v352.toNat, 0, 0]
def k0_off18 (k0_t2 : Fin k0_t2_loop.trips) : Fin 3 → Nat :=
  let c0_i32_19 : BitVec 32 := 0#32
  let c1_i32_21 : BitVec 32 := 1#32
  let arg17 : BitVec 32 := Scf.iv c0_i32_19 c1_i32_21 k0_t2
  let v383 : Index := Scalar.indexCast arg17
  let c0_187 : Index := 0#32
  let c0_188 : Index := 0#32
  ![v383.toNat, 0, 0]
def k0_off19 (k0_t2 : Fin k0_t2_loop.trips) : Fin 4 → Nat :=
  let c0_205 : Index := 0#32
  let c0_i32_19 : BitVec 32 := 0#32
  let c1_i32_21 : BitVec 32 := 1#32
  let arg17 : BitVec 32 := Scf.iv c0_i32_19 c1_i32_21 k0_t2
  let c1_i32_203 : BitVec 32 := 1#32
  let v406 : BitVec 32 := Scalar.subi arg17 c1_i32_203
  let c0_i32_204 : BitVec 32 := 0#32
  let v407 : BitVec 32 := Scalar.maxsi v406 c0_i32_204
  let v408 : Index := Scalar.indexCast v407
  let c0_206 : Index := 0#32
  let c0_207 : Index := 0#32
  ![0, v408.toNat, 0, 0]
def k0_off20 (k0_t2 : Fin k0_t2_loop.trips) : Fin 4 → Nat :=
  let c1_213 : Index := 1#32
  let c0_i32_19 : BitVec 32 := 0#32
  let c1_i32_21 : BitVec 32 := 1#32
  let arg17 : BitVec 32 := Scf.iv c0_i32_19 c1_i32_21 k0_t2
  let c1_i32_203 : BitVec 32 := 1#32
  let v406 : BitVec 32 := Scalar.subi arg17 c1_i32_203
  let c0_i32_204 : BitVec 32 := 0#32
  let v407 : BitVec 32 := Scalar.maxsi v406 c0_i32_204
  let v417 : Index := Scalar.indexCast v407
  let c0_214 : Index := 0#32
  let c0_215 : Index := 0#32
  ![1, v417.toNat, 0, 0]
def k0_off21 (k0_t2 : Fin k0_t2_loop.trips) : Fin 3 → Nat :=
  let c0_i32_19 : BitVec 32 := 0#32
  let c1_i32_21 : BitVec 32 := 1#32
  let arg17 : BitVec 32 := Scf.iv c0_i32_19 c1_i32_21 k0_t2
  let v437 : Index := Scalar.indexCast arg17
  let c0_225 : Index := 0#32
  let c0_226 : Index := 0#32
  ![v437.toNat, 0, 0]
@[reducible] def k0_t3_loop (k0_t2 : Fin k0_t2_loop.trips) : Scf.Loop 32 :=
  let c0_i32_241 : BitVec 32 := 0#32
  let c0_i32_19 : BitVec 32 := 0#32
  let c1_i32_21 : BitVec 32 := 1#32
  let arg17 : BitVec 32 := Scf.iv c0_i32_19 c1_i32_21 k0_t2
  let v460 : BitVec 32 := Scalar.subi arg17 c0_i32_241
  let c1_i32_242 : BitVec 32 := 1#32
  let v462 : BitVec 32 := Scalar.divsi v460 c1_i32_242
  let v463 : BitVec 32 := Scalar.muli v462 c1_i32_242
  let v464 : BitVec 32 := Scalar.addi c0_i32_241 v463
  let c1_i32_243 : BitVec 32 := 1#32
  ⟨c0_i32_241, v464, c1_i32_243⟩
def k0_off22 (k0_t2 : Fin k0_t2_loop.trips) (k0_t3 : Fin (k0_t3_loop k0_t2).trips) : Fin 4 → Nat :=
  let c0_359 : Index := 0#32
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let c1_i32_243 : BitVec 32 := 1#32
  let arg18 : BitVec 32 := Scf.iv c0_i32_241 c1_i32_243 k0_t3
  let v644 : BitVec 32 := Scalar.subi v643 arg18
  let v647 : Index := Scalar.indexCast v644
  let c0_360 : Index := 0#32
  let c0_361 : Index := 0#32
  ![0, v647.toNat, 0, 0]
def k0_off23 (k0_t2 : Fin k0_t2_loop.trips) (k0_t3 : Fin (k0_t3_loop k0_t2).trips) : Fin 4 → Nat :=
  let c1_367 : Index := 1#32
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let c1_i32_243 : BitVec 32 := 1#32
  let arg18 : BitVec 32 := Scf.iv c0_i32_241 c1_i32_243 k0_t3
  let v644 : BitVec 32 := Scalar.subi v643 arg18
  let v656 : Index := Scalar.indexCast v644
  let c0_368 : Index := 0#32
  let c0_369 : Index := 0#32
  ![1, v656.toNat, 0, 0]
def k0_off24 (k0_t2 : Fin k0_t2_loop.trips) (k0_t3 : Fin (k0_t3_loop k0_t2).trips) : Fin 3 → Nat :=
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let c1_i32_243 : BitVec 32 := 1#32
  let arg18 : BitVec 32 := Scf.iv c0_i32_241 c1_i32_243 k0_t3
  let v644 : BitVec 32 := Scalar.subi v643 arg18
  let v679 : Index := Scalar.indexCast v644
  let c0_379 : Index := 0#32
  let c0_380 : Index := 0#32
  ![v679.toNat, 0, 0]
def k0_off25 (k0_t2 : Fin k0_t2_loop.trips) (k0_t3 : Fin (k0_t3_loop k0_t2).trips) : Fin 4 → Nat :=
  let c0_496 : Index := 0#32
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let c1_i32_243 : BitVec 32 := 1#32
  let arg18 : BitVec 32 := Scf.iv c0_i32_241 c1_i32_243 k0_t3
  let v644 : BitVec 32 := Scalar.subi v643 arg18
  let c1_i32_494 : BitVec 32 := 1#32
  let v857 : BitVec 32 := Scalar.subi v644 c1_i32_494
  let c0_i32_495 : BitVec 32 := 0#32
  let v858 : BitVec 32 := Scalar.maxsi v857 c0_i32_495
  let v859 : Index := Scalar.indexCast v858
  let c0_497 : Index := 0#32
  let c0_498 : Index := 0#32
  ![0, v859.toNat, 0, 0]
def k0_off26 (k0_t2 : Fin k0_t2_loop.trips) (k0_t3 : Fin (k0_t3_loop k0_t2).trips) : Fin 4 → Nat :=
  let c1_504 : Index := 1#32
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let c1_i32_243 : BitVec 32 := 1#32
  let arg18 : BitVec 32 := Scf.iv c0_i32_241 c1_i32_243 k0_t3
  let v644 : BitVec 32 := Scalar.subi v643 arg18
  let c1_i32_494 : BitVec 32 := 1#32
  let v857 : BitVec 32 := Scalar.subi v644 c1_i32_494
  let c0_i32_495 : BitVec 32 := 0#32
  let v858 : BitVec 32 := Scalar.maxsi v857 c0_i32_495
  let v868 : Index := Scalar.indexCast v858
  let c0_505 : Index := 0#32
  let c0_506 : Index := 0#32
  ![1, v868.toNat, 0, 0]
@[reducible] def k0_t4_loop (k0_t2 : Fin k0_t2_loop.trips) : Scf.Loop 32 :=
  let c0_i32_241 : BitVec 32 := 0#32
  let c0_i32_19 : BitVec 32 := 0#32
  let c1_i32_21 : BitVec 32 := 1#32
  let arg17 : BitVec 32 := Scf.iv c0_i32_19 c1_i32_21 k0_t2
  let v460 : BitVec 32 := Scalar.subi arg17 c0_i32_241
  let c1_i32_242 : BitVec 32 := 1#32
  let v462 : BitVec 32 := Scalar.divsi v460 c1_i32_242
  let v463 : BitVec 32 := Scalar.muli v462 c1_i32_242
  let v464 : BitVec 32 := Scalar.addi c0_i32_241 v463
  let v461 : BitVec 32 := Scalar.addi c0_i32_241 v460
  let c1_i32_244 : BitVec 32 := 1#32
  ⟨v464, v461, c1_i32_244⟩
def k0_off27 (k0_t2 : Fin k0_t2_loop.trips) (k0_t4 : Fin (k0_t4_loop k0_t2).trips) : Fin 4 → Nat :=
  let c0_359 : Index := 0#32
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let v460 : BitVec 32 := Scalar.subi arg17 c0_i32_241
  let c1_i32_242 : BitVec 32 := 1#32
  let v462 : BitVec 32 := Scalar.divsi v460 c1_i32_242
  let v463 : BitVec 32 := Scalar.muli v462 c1_i32_242
  let v464 : BitVec 32 := Scalar.addi c0_i32_241 v463
  let c1_i32_244 : BitVec 32 := 1#32
  let arg18 : BitVec 32 := Scf.iv v464 c1_i32_244 k0_t4
  let v644 : BitVec 32 := Scalar.subi v643 arg18
  let v647 : Index := Scalar.indexCast v644
  let c0_360 : Index := 0#32
  let c0_361 : Index := 0#32
  ![0, v647.toNat, 0, 0]
def k0_off28 (k0_t2 : Fin k0_t2_loop.trips) (k0_t4 : Fin (k0_t4_loop k0_t2).trips) : Fin 4 → Nat :=
  let c1_367 : Index := 1#32
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let v460 : BitVec 32 := Scalar.subi arg17 c0_i32_241
  let c1_i32_242 : BitVec 32 := 1#32
  let v462 : BitVec 32 := Scalar.divsi v460 c1_i32_242
  let v463 : BitVec 32 := Scalar.muli v462 c1_i32_242
  let v464 : BitVec 32 := Scalar.addi c0_i32_241 v463
  let c1_i32_244 : BitVec 32 := 1#32
  let arg18 : BitVec 32 := Scf.iv v464 c1_i32_244 k0_t4
  let v644 : BitVec 32 := Scalar.subi v643 arg18
  let v656 : Index := Scalar.indexCast v644
  let c0_368 : Index := 0#32
  let c0_369 : Index := 0#32
  ![1, v656.toNat, 0, 0]
def k0_off29 (k0_t2 : Fin k0_t2_loop.trips) (k0_t4 : Fin (k0_t4_loop k0_t2).trips) : Fin 3 → Nat :=
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let v460 : BitVec 32 := Scalar.subi arg17 c0_i32_241
  let c1_i32_242 : BitVec 32 := 1#32
  let v462 : BitVec 32 := Scalar.divsi v460 c1_i32_242
  let v463 : BitVec 32 := Scalar.muli v462 c1_i32_242
  let v464 : BitVec 32 := Scalar.addi c0_i32_241 v463
  let c1_i32_244 : BitVec 32 := 1#32
  let arg18 : BitVec 32 := Scf.iv v464 c1_i32_244 k0_t4
  let v644 : BitVec 32 := Scalar.subi v643 arg18
  let v679 : Index := Scalar.indexCast v644
  let c0_379 : Index := 0#32
  let c0_380 : Index := 0#32
  ![v679.toNat, 0, 0]
def k0_off30 (k0_t2 : Fin k0_t2_loop.trips) (k0_t4 : Fin (k0_t4_loop k0_t2).trips) : Fin 4 → Nat :=
  let c0_496 : Index := 0#32
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let v460 : BitVec 32 := Scalar.subi arg17 c0_i32_241
  let c1_i32_242 : BitVec 32 := 1#32
  let v462 : BitVec 32 := Scalar.divsi v460 c1_i32_242
  let v463 : BitVec 32 := Scalar.muli v462 c1_i32_242
  let v464 : BitVec 32 := Scalar.addi c0_i32_241 v463
  let c1_i32_244 : BitVec 32 := 1#32
  let arg18 : BitVec 32 := Scf.iv v464 c1_i32_244 k0_t4
  let v644 : BitVec 32 := Scalar.subi v643 arg18
  let c1_i32_494 : BitVec 32 := 1#32
  let v857 : BitVec 32 := Scalar.subi v644 c1_i32_494
  let c0_i32_495 : BitVec 32 := 0#32
  let v858 : BitVec 32 := Scalar.maxsi v857 c0_i32_495
  let v859 : Index := Scalar.indexCast v858
  let c0_497 : Index := 0#32
  let c0_498 : Index := 0#32
  ![0, v859.toNat, 0, 0]
def k0_off31 (k0_t2 : Fin k0_t2_loop.trips) (k0_t4 : Fin (k0_t4_loop k0_t2).trips) : Fin 4 → Nat :=
  let c1_504 : Index := 1#32
  let c0_i32_19 : BitVec 32 := 0#32
  let c1_i32_21 : BitVec 32 := 1#32
  let arg17 : BitVec 32 := Scf.iv c0_i32_19 c1_i32_21 k0_t2
  let c1_i32_356 : BitVec 32 := 1#32
  let v643 : BitVec 32 := Scalar.subi arg17 c1_i32_356
  let c0_i32_241 : BitVec 32 := 0#32
  let v460 : BitVec 32 := Scalar.subi arg17 c0_i32_241
  let c1_i32_242 : BitVec 32 := 1#32
  let v462 : BitVec 32 := Scalar.divsi v460 c1_i32_242
  let v463 : BitVec 32 := Scalar.muli v462 c1_i32_242
  let v464 : BitVec 32 := Scalar.addi c0_i32_241 v463
  let c1_i32_244 : BitVec 32 := 1#32
  let arg18 : BitVec 32 := Scf.iv v464 c1_i32_244 k0_t4
  let v644 : BitVec 32 := Scalar.subi v643 arg18
  let c1_i32_494 : BitVec 32 := 1#32
  let v857 : BitVec 32 := Scalar.subi v644 c1_i32_494
  let c0_i32_495 : BitVec 32 := 0#32
  let v858 : BitVec 32 := Scalar.maxsi v857 c0_i32_495
  let v868 : Index := Scalar.indexCast v858
  let c0_505 : Index := 0#32
  let c0_506 : Index := 0#32
  ![1, v868.toNat, 0, 0]
def k0_mult6 (k0_t2 : Fin k0_t2_loop.trips) : BitVec 32 :=
  let c0_i32_19 : BitVec 32 := 0#32
  let c1_i32_21 : BitVec 32 := 1#32
  let arg17 : BitVec 32 := Scf.iv c0_i32_19 c1_i32_21 k0_t2
  let c1024_i32_265 : BitVec 32 := 1024#32
  let v496 : BitVec 32 := Scalar.muli arg17 c1024_i32_265
  let c0_i32_266 : BitVec 32 := 0#32
  let v497 : BitVec 32 := Scalar.addi v496 c0_i32_266
  v497
def k0_mult7 (k0_t2 : Fin k0_t2_loop.trips) : BitVec 32 :=
  let c0_i32_19 : BitVec 32 := 0#32
  let c1_i32_21 : BitVec 32 := 1#32
  let arg17 : BitVec 32 := Scf.iv c0_i32_19 c1_i32_21 k0_t2
  let c1024_i32_293 : BitVec 32 := 1024#32
  let v540 : BitVec 32 := Scalar.muli arg17 c1024_i32_293
  let c256_i32_294 : BitVec 32 := 256#32
  let v541 : BitVec 32 := Scalar.addi v540 c256_i32_294
  v541
def k0_mult8 (k0_t2 : Fin k0_t2_loop.trips) : BitVec 32 :=
  let c0_i32_19 : BitVec 32 := 0#32
  let c1_i32_21 : BitVec 32 := 1#32
  let arg17 : BitVec 32 := Scf.iv c0_i32_19 c1_i32_21 k0_t2
  let c1024_i32_321 : BitVec 32 := 1024#32
  let v584 : BitVec 32 := Scalar.muli arg17 c1024_i32_321
  let c512_i32_322 : BitVec 32 := 512#32
  let v585 : BitVec 32 := Scalar.addi v584 c512_i32_322
  v585
def k0_mult9 (k0_t2 : Fin k0_t2_loop.trips) : BitVec 32 :=
  let c0_i32_19 : BitVec 32 := 0#32
  let c1_i32_21 : BitVec 32 := 1#32
  let arg17 : BitVec 32 := Scf.iv c0_i32_19 c1_i32_21 k0_t2
  let c1024_i32_349 : BitVec 32 := 1024#32
  let v628 : BitVec 32 := Scalar.muli arg17 c1024_i32_349
  let c768_i32_350 : BitVec 32 := 768#32
  let v629 : BitVec 32 := Scalar.addi v628 c768_i32_350
  v629
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DiffIdeal.lean ====
variable {F : FTy → Type} [FloatOps F] [Named F]
def κ : String → Option EReal := fun
  | "log2e" => some (((Real.log 2)⁻¹ : ℝ) : EReal)
  | "mask" => some ⊥
  | _ => none
-- ==== Dil.lean ====
abbrev S2x8192x7680 : Shape := ⟨3, ![2, 8192, 7680]⟩
abbrev S4 : Shape := ⟨1, ![4]⟩
abbrev S_ : Shape := ⟨0, ![]⟩
abbrev S2x8192x512 : Shape := ⟨3, ![2, 8192, 512]⟩
abbrev S1x2048x128 : Shape := ⟨3, ![1, 2048, 128]⟩
abbrev S1x128x128 : Shape := ⟨3, ![1, 128, 128]⟩
abbrev S1x512x128 : Shape := ⟨3, ![1, 512, 128]⟩
abbrev S2048x128 : Shape := ⟨2, ![2048, 128]⟩
abbrev S4096x128 : Shape := ⟨2, ![4096, 128]⟩
abbrev S4x512x128 : Shape := ⟨3, ![4, 512, 128]⟩
abbrev S4x1024x128 : Shape := ⟨3, ![4, 1024, 128]⟩
abbrev S3x2048x128 : Shape := ⟨3, ![3, 2048, 128]⟩
abbrev S1 : Shape := ⟨1, ![1]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x256x128 : Shape := ⟨3, ![1, 256, 128]⟩
abbrev S512x128 : Shape := ⟨2, ![512, 128]⟩
abbrev S1024x128 : Shape := ⟨2, ![1024, 128]⟩
abbrev S1x1024x128 : Shape := ⟨3, ![1, 1024, 128]⟩

abbrev nBuf : Space → Nat
  | .hbm => 16
  | .vmem => 40
  | .smem => 1
  | _ => 0

abbrev bufTy : (tb : Table) → Fin (tcTables nBuf tb) → BufTy
  | .hbm, ⟨0, _⟩ => ⟨S2x8192x7680, .bf16⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S2x8192x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x2048x128, .bf16⟩
  | .local _ .vmem, ⟨25, _⟩ => ⟨S1x2048x128, .bf16⟩
  | .local _ .vmem, ⟨26, _⟩ => ⟨S1x2048x128, .bf16⟩
  | .local _ .vmem, ⟨27, _⟩ => ⟨S1x2048x128, .bf16⟩
  | .local _ .vmem, ⟨28, _⟩ => ⟨S1x2048x128, .bf16⟩
  | .local _ .vmem, ⟨29, _⟩ => ⟨S1x2048x128, .bf16⟩
  | .local _ .vmem, ⟨30, _⟩ => ⟨S1x2048x128, .bf16⟩
  | .local _ .vmem, ⟨31, _⟩ => ⟨S1x2048x128, .bf16⟩
  | .local _ .vmem, ⟨32, _⟩ => ⟨S2048x128, .f32⟩
  | .local _ .vmem, ⟨33, _⟩ => ⟨S4096x128, .f32⟩
  | .local _ .vmem, ⟨34, _⟩ => ⟨S4096x128, .f32⟩
  | .local _ .vmem, ⟨35, _⟩ => ⟨S4x512x128, .f32⟩
  | .local _ .vmem, ⟨36, _⟩ => ⟨S4x1024x128, .f32⟩
  | .local _ .vmem, ⟨37, _⟩ => ⟨S4x1024x128, .f32⟩
  | .local _ .vmem, ⟨38, _⟩ => ⟨S3x2048x128, .f32⟩
  | .local _ .vmem, ⟨39, _⟩ => ⟨S3x2048x128, .f32⟩
  | .local _ .smem, ⟨0, _⟩ => ⟨S4, .f32⟩
  | _, _ => ⟨S2x8192x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨3, ![2, 4, 4], ![false, false, false]⟩

def k0_off1 (i : grid0.Coords) : Fin 1 → Nat :=
  let arg2 : BitVec 32 := BitVec.ofNat 32 (i 2).val
  let v0 : Index := Scalar.indexCast arg2
  ![v0.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c36_i32 : BitVec 32 := 36#32
  let v3 : BitVec 32 := Scalar.addi c36_i32 arg2
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c48_i32 : BitVec 32 := 48#32
  let v3 : BitVec 32 := Scalar.addi c48_i32 arg2
  let c0_i32_0 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg2
  let c0_i32 : BitVec 32 := 0#32
  ![arg0.toNat, arg1.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c52_i32 : BitVec 32 := 52#32
  let v0 : BitVec 32 := Scalar.addi c52_i32 arg2
  let c0_i32 : BitVec 32 := 0#32
  ![arg0.toNat, arg1.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c40_i32 : BitVec 32 := 40#32
  let v3 : BitVec 32 := Scalar.addi c40_i32 arg2
  let c0_i32_0 : BitVec 32 := 0#32
  ![arg0.toNat, v2.toNat, v3.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c52_i32 : BitVec 32 := 52#32
  let v3 : BitVec 32 := Scalar.addi c52_i32 arg2
  let c0_i32_0 : BitVec 32 := 0#32
  ![arg0.toNat, v2.toNat, v3.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg2
  let c0_i32 : BitVec 32 := 0#32
  ![arg0.toNat, arg1.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi c44_i32 arg2
  let c0_i32 : BitVec 32 := 0#32
  ![arg0.toNat, arg1.toNat, v0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg2
  let c0_i32 : BitVec 32 := 0#32
  ![arg0.toNat, arg1.toNat, v0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c44_i32 : BitVec 32 := 44#32
  let v3 : BitVec 32 := Scalar.addi c44_i32 arg2
  let c0_i32_1 : BitVec 32 := 0#32
  ![arg0.toNat, v2.toNat, v3.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c56_i32 : BitVec 32 := 56#32
  let v3 : BitVec 32 := Scalar.addi c56_i32 arg2
  let c0_i32_1 : BitVec 32 := 0#32
  ![arg0.toNat, v2.toNat, v3.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== Inproj.lean ====
abbrev S16384x1024 : Shape := ⟨2, ![16384, 1024]⟩
abbrev S1024 : Shape := ⟨1, ![1024]⟩
abbrev S1024x9728 : Shape := ⟨2, ![1024, 9728]⟩
abbrev S2048 : Shape := ⟨1, ![2048]⟩
abbrev S1x1024 : Shape := ⟨2, ![1, 1024]⟩
abbrev S1x2048 : Shape := ⟨2, ![1, 2048]⟩
abbrev S16384x7680 : Shape := ⟨2, ![16384, 7680]⟩
abbrev S16384x2048 : Shape := ⟨2, ![16384, 2048]⟩
abbrev S512x1024 : Shape := ⟨2, ![512, 1024]⟩
abbrev S512x7680 : Shape := ⟨2, ![512, 7680]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9728, .f32⟩
  | .hbm, ⟨3, _⟩ => ⟨S2048, .f32⟩
  | .hbm, ⟨4, _⟩ => ⟨S1024x9728, .bf16⟩
  | .hbm, ⟨5, _⟩ => ⟨S1x1024, .f32⟩
  | .hbm, ⟨6, _⟩ => ⟨S1x2048, .f32⟩
  | .hbm, ⟨7, _⟩ => ⟨S16384x7680, .bf16⟩
  | .hbm, ⟨8, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x9728, .bf16⟩
  | .local _ .vmem, ⟨4, _⟩ => ⟨S1x2048, .f32⟩
  | .local _ .vmem, ⟨5, _⟩ => ⟨S512x7680, .bf16⟩
  | .local _ .vmem, ⟨6, _⟩ => ⟨S512x7680, .bf16⟩
  | .local _ .vmem, ⟨7, _⟩ => ⟨S512x2048, .f32⟩
  | .local _ .vmem, ⟨8, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9728 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x7680 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S16384x1024 : Shape := ⟨2, ![16384, 1024]⟩
abbrev S1024 : Shape := ⟨1, ![1024]⟩
abbrev S1024x9728 : Shape := ⟨2, ![1024, 9728]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x9728 : Shape := ⟨2, ![16384, 9728]⟩
abbrev S16384x2048 : Shape := ⟨2, ![16384, 2048]⟩
abbrev S16384x1536 : Shape := ⟨2, ![16384, 1536]⟩
abbrev S16384x3072 : Shape := ⟨2, ![16384, 3072]⟩
abbrev S1x2048 : Shape := ⟨2, ![1, 2048]⟩
abbrev S16384x7680 : Shape := ⟨2, ![16384, 7680]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9728, .f32⟩
  | .hbm, ⟨3, _⟩ => ⟨S2048, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S1024x9728, .bf16⟩
  | .hbm, ⟨22, _⟩ => ⟨S16384x9728, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x2048, .f32⟩
  | .hbm, ⟨28, _⟩ => ⟨S16384x1536, .f32⟩
  | .hbm, ⟨29, _⟩ => ⟨S_, .f32⟩
  | .hbm, ⟨30, _⟩ => ⟨S16384x1536, .f32⟩
  | .hbm, ⟨31, _⟩ => ⟨S16384x1536, .f32⟩
  | .hbm, ⟨32, _⟩ => ⟨S16384x3072, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S16384x7680, .f32⟩
  | .hbm, ⟨46, _⟩ => ⟨S16384x7680, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Mix.lean ====
abbrev S16384x1024 : Shape := ⟨2, ![16384, 1024]⟩
abbrev S16384x512 : Shape := ⟨2, ![16384, 512]⟩
abbrev S16384x2048 : Shape := ⟨2, ![16384, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x2048, .f32⟩
  | .hbm, ⟨3, _⟩ => ⟨S16384x1024, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024x1024, .bf16⟩
  | .hbm, ⟨8, _⟩ => ⟨S512x1024, .bf16⟩
  | .hbm, ⟨9, _⟩ => ⟨S1024x1024, .bf16⟩
  | .hbm, ⟨10, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S16384x1024 : Shape := ⟨2, ![16384, 1024]⟩
abbrev S16384x512 : Shape := ⟨2, ![16384, 512]⟩
abbrev S16384x2048 : Shape := ⟨2, ![16384, 2048]⟩
abbrev S1024x1024 : Shape := ⟨2, ![1024, 1024]⟩
abbrev S512x1024 : Shape := ⟨2, ![512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x2048, .f32⟩
  | .hbm, ⟨3, _⟩ => ⟨S16384x1024, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024x1024, .bf16⟩
  | .hbm, ⟨8, _⟩ => ⟨S16384x1024, .f32⟩
  | .hbm, ⟨9, _⟩ => ⟨S512x1024, .bf16⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S1024x1024, .bf16⟩
  | .hbm, ⟨18, _⟩ => ⟨S16384x1024, .f32⟩
  | .hbm, ⟨19, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Memkv.lean ====
abbrev S2x256x1024 : Shape := ⟨3, ![2, 256, 1024]⟩
abbrev S1024 : Shape := ⟨1, ![1024]⟩
abbrev S1024x2048 : Shape := ⟨2, ![1024, 2048]⟩
abbrev S1x1024 : Shape := ⟨2, ![1, 1024]⟩
abbrev S2x1024x256 : Shape := ⟨3, ![2, 1024, 256]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1024x256 : Shape := ⟨2, ![1024, 256]⟩

abbrev nBuf : Space → Nat
  | .hbm => 7
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S2x1024x256, .bf16⟩
  | .hbm, ⟨6, _⟩ => ⟨S2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemkvRefIdeal.lean ====
abbrev S2x256x1024 : Shape := ⟨3, ![2, 256, 1024]⟩
abbrev S1024 : Shape := ⟨1, ![1024]⟩
abbrev S1024x2048 : Shape := ⟨2, ![1024, 2048]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩
abbrev S2x1024x256 : Shape := ⟨3, ![2, 1024, 256]⟩

abbrev nBuf : Space → Nat
  | .hbm => 27
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x1024, .bf16⟩
  | .hbm, ⟨20, _⟩ => ⟨S1024x2048, .bf16⟩
  | .hbm, ⟨21, _⟩ => ⟨S2x256x2048, .f32⟩
  | .hbm, ⟨22, _⟩ => ⟨S2x256x1024, .f32⟩
  | .hbm, ⟨23, _⟩ => ⟨S2x1024x256, .f32⟩
  | .hbm, ⟨24, _⟩ => ⟨S2x1024x256, .bf16⟩
  | .hbm, ⟨25, _⟩ => ⟨S2x256x1024, .f32⟩
  | .hbm, ⟨26, _⟩ => ⟨S2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Cross.lean ====
abbrev S2x8192x1024 : Shape := ⟨3, ![2, 8192, 1024]⟩
abbrev S1024 : Shape := ⟨1, ![1024]⟩
abbrev S1024x1024 : Shape := ⟨2, ![1024, 1024]⟩
abbrev S2x1024x256 : Shape := ⟨3, ![2, 1024, 256]⟩
abbrev S2x256x1024 : Shape := ⟨3, ![2, 256, 1024]⟩
abbrev S1x1024 : Shape := ⟨2, ![1, 1024]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 10
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x1024, .f32⟩
  | .hbm, ⟨3, _⟩ => ⟨S2x1024x256, .bf16⟩
  | .hbm, ⟨4, _⟩ => ⟨S2x256x1024, .bf16⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CrossRefIdeal.lean ====
abbrev S2x8192x1024 : Shape := ⟨3, ![2, 8192, 1024]⟩
abbrev S1024 : Shape := ⟨1, ![1024]⟩
abbrev S1024x1024 : Shape := ⟨2, ![1024, 1024]⟩
abbrev S2x1024x256 : Shape := ⟨3, ![2, 1024, 256]⟩
abbrev S2x256x1024 : Shape := ⟨3, ![2, 256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x4x256x256 : Shape := ⟨4, ![2, 4, 256, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x256x4x256 : Shape := ⟨4, ![2, 256, 4, 256]⟩
abbrev S2x4x256x8192 : Shape := ⟨4, ![2, 4, 256, 8192]⟩

abbrev nBuf : Space → Nat
  | .hbm => 52
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x1024, .f32⟩
  | .hbm, ⟨3, _⟩ => ⟨S2x1024x256, .bf16⟩
  | .hbm, ⟨4, _⟩ => ⟨S2x256x1024, .bf16⟩
  | .hbm, ⟨5, _⟩ => ⟨S1024x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x1024, .bf16⟩
  | .hbm, ⟨23, _⟩ => ⟨S1024x1024, .bf16⟩
  | .hbm, ⟨24, _⟩ => ⟨S2x8192x1024, .f32⟩
  | .hbm, ⟨25, _⟩ => ⟨S2x8192x1024, .bf16⟩
  | .hbm, ⟨26, _⟩ => ⟨S2x8192x4x256, .bf16⟩
  | .hbm, ⟨27, _⟩ => ⟨S2x4x256x256, .bf16⟩
  | .hbm, ⟨28, _⟩ => ⟨S2x4x8192x256, .f32⟩
  | .hbm, ⟨29, _⟩ => ⟨S_, .f32⟩
  | .hbm, ⟨30, _⟩ => ⟨S2x4x8192x256, .f32⟩
  | .hbm, ⟨31, _⟩ => ⟨S2x4x8192x256, .f32⟩
  | .hbm, ⟨32, _⟩ => ⟨S_, .f32⟩
  | .hbm, ⟨33, _⟩ => ⟨S2x4x8192, .f32⟩
  | .hbm, ⟨34, _⟩ => ⟨S2x4x8192x1, .f32⟩
  | .hbm, ⟨35, _⟩ => ⟨S2x4x8192x256, .f32⟩
  | .hbm, ⟨36, _⟩ => ⟨S2x4x8192x256, .f32⟩
  | .hbm, ⟨37, _⟩ => ⟨S2x4x8192x256, .f32⟩
  | .hbm, ⟨38, _⟩ => ⟨S_, .f32⟩
  | .hbm, ⟨39, _⟩ => ⟨S2x4x8192, .f32⟩
  | .hbm, ⟨40, _⟩ => ⟨S2x4x8192x1, .f32⟩
  | .hbm, ⟨41, _⟩ => ⟨S2x4x8192x256, .f32⟩
  | .hbm, ⟨42, _⟩ => ⟨S2x4x8192x256, .f32⟩
  | .hbm, ⟨43, _⟩ => ⟨S2x4x8192x256, .bf16⟩
  | .hbm, ⟨44, _⟩ => ⟨S2x256x4x256, .bf16⟩
  | .hbm, ⟨45, _⟩ => ⟨S2x4x256x8192, .f32⟩
  | .hbm, ⟨46, _⟩ => ⟨S2x8192x4x256, .f32⟩
  | .hbm, ⟨47, _⟩ => ⟨S2x8192x1024, .f32⟩
  | .hbm, ⟨48, _⟩ => ⟨S2x8192x1024, .bf16⟩
  | .hbm, ⟨49, _⟩ => ⟨S1024x1024, .bf16⟩
  | .hbm, ⟨50, _⟩ => ⟨S2x8192x1024, .f32⟩
  | .hbm, ⟨51, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S512x1024 : Shape := ⟨2, ![512, 1024]⟩
abbrev S520x2816 : Shape := ⟨2, ![520, 2816]⟩
abbrev S8x2816 : Shape := ⟨2, ![8, 2816]⟩
abbrev S512 : Shape := ⟨1, ![512]⟩
abbrev S512x1 : Shape := ⟨2, ![512, 1]⟩
abbrev S1024x1024 : Shape := ⟨2, ![1024, 1024]⟩
abbrev S8x1024 : Shape := ⟨2, ![8, 1024]⟩
abbrev S3x1024 : Shape := ⟨2, ![3, 1024]⟩
abbrev S1024x768 : Shape := ⟨2, ![1024, 768]⟩
abbrev S512x768 : Shape := ⟨2, ![512, 768]⟩
abbrev S8x768 : Shape := ⟨2, ![8, 768]⟩
abbrev S3x768 : Shape := ⟨2, ![3, 768]⟩
abbrev S1x768 : Shape := ⟨2, ![1, 768]⟩
abbrev S768x1024 : Shape := ⟨2, ![768, 1024]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x2816, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S520x2816, .f32⟩
  | .local _ .vmem, ⟨11, _⟩ => ⟨S8x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S2x8192x2816 : Shape := ⟨3, ![2, 8192, 2816]⟩
abbrev S2x8194x2816 : Shape := ⟨3, ![2, 8194, 2816]⟩
abbrev S1x2816 : Shape := ⟨2, ![1, 2816]⟩
abbrev S1x1x2816 : Shape := ⟨3, ![1, 1, 2816]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | .hbm, ⟨24, _⟩ => ⟨S1024x5632, .bf16⟩
  | .hbm, ⟨25, _⟩ => ⟨S16384x5632, .f32⟩
  | .hbm, ⟨26, _⟩ => ⟨S16384x2816, .f32⟩
  | .hbm, ⟨27, _⟩ => ⟨S2x8192x2816, .f32⟩
  | .hbm, ⟨28, _⟩ => ⟨S_, .i32⟩
  | .hbm, ⟨29, _⟩ => ⟨S_, .f32⟩
  | .hbm, ⟨30, _⟩ => ⟨S2x8194x2816, .f32⟩
  | .hbm, ⟨31, _⟩ => ⟨S1x2816, .f32⟩
  | .hbm, ⟨32, _⟩ => ⟨S2816, .f32⟩
  | .hbm, ⟨33, _⟩ => ⟨S2x8192x2816, .f32⟩
  | .hbm, ⟨34, _⟩ => ⟨S1x1x2816, .f32⟩
  | .hbm, ⟨35, _⟩ => ⟨S2x8192x2816, .f32⟩
  | .hbm, ⟨36, _⟩ => ⟨S2x8192x2816, .f32⟩
  | .hbm, ⟨37, _⟩ => ⟨S1x2816, .f32⟩
  | .hbm, ⟨38, _⟩ => ⟨S2816, .f32⟩
  | .hbm, ⟨39, _⟩ => ⟨S2x8192x2816, .f32⟩
  | .hbm, ⟨40, _⟩ => ⟨S1x1x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S1x2816, .f32⟩
  | .hbm, ⟨45, _⟩ => ⟨S2816, .f32⟩
  | .hbm, ⟨46, _⟩ => ⟨S2x8192x2816, .f32⟩
  | .hbm, ⟨47, _⟩ => ⟨S1x1x2816, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S1x1x2816, .f32⟩
  | .hbm, ⟨52, _⟩ => ⟨S2x8192x2816, .f32⟩
  | .hbm, ⟨53, _⟩ => ⟨S2x8192x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S_, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S16384x2816, .bf16⟩
  | .hbm, ⟨69, _⟩ => ⟨S2816x1024, .bf16⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_cst_7 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Proof.DiffIdeal.Body.lean ====
/-
  The differential attention's body at one grid point of `Cert.DiffIdeal`: the loop over the eight blocks of query rows by an
  invariant that keeps the inputs and the two scratch copies of the keys and values and says nothing of what is written;
  then the proof data with the result's window forgotten, and the run.
-/
module

public import proofs.«01_k».proof.Proof.Gen.DiffIdeal.Frame
public import proofs.«01_k».proof.Proof.Gen.DiffIdeal.Loops
public import Idealize.ShloMosaic.Lib.Claim

@[expose] public section

set_option maxRecDepth 16384
set_option maxHeartbeats 4000000

noncomputable section

namespace Cert.DiffIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.DiffIdeal.Gen

variable {F : FTy → Type} [FloatOps F] [Named F]

local notation "𝕄" => MT nD τ sig Unit (Elt F) ℕ (UR sig nD τ) ℕ

set_option warn.classDefReducibility false in
/-- The loop's generated invariant at the values the region does not use filled in. -/
@[sl_loop] def loopInv_t3' (𝒱 : Variants) (c : Dev nD) (bd : Option 𝒱.V) (E : Set ℕ) (i : grid0.Coords) (arg2 : Memref sig .tc .smem S8 .f32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x8192x128 .bf16) (harg11 : arg11.IsWhole) (arg12 : Memref sig .tc .vmem S2x8x1024x128 .bf16) (harg12 : arg12.IsWhole) (arg13 : Memref sig .tc .vmem S8x144x1024 .bf16) (harg13 : arg13.IsWhole) (arg14 : Memref sig .tc .vmem S4x2x144x256 .f32) (harg14 : arg14.IsWhole) (arg15 : Memref sig .tc .vmem S2x1024x256 .f32) (harg15 : arg15.IsWhole) (arg16 : Memref sig .tc .vmem S2x1024x256 .f32) (harg16 : arg16.IsWhole) (v2 : F .f32) (v65 : FVec F S1x256 .f32) (k0_t2 : Fin k0_t2_loop.trips) (arg17 : BitVec 32) (v90 : FVec F S128x256 .bf16) (v92 : FVec F S128x256 .bf16) (v113 : FVec F S128x256 .bf16) (v115 : FVec F S128x256 .bf16) (v136 : FVec F S128x256 .bf16) (v138 : FVec F S128x256 .bf16) (v159 : FVec F S128x256 .bf16) (v161 : FVec F S128x256 .bf16) (X_arg12 : BufTy.Contents (Elt F) arg12.view.ty) (X_arg13 : BufTy.Contents (Elt F) arg13.view.ty) (G_arg14 : BufTy.Contents (Elt F) arg14.view.ty) (G_arg15 : BufTy.Contents (Elt F) arg15.view.ty) (G_arg16 : BufTy.Contents (Elt F) arg16.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :=
  loopInv_k0_t3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v65 k0_t2 arg17 v90 v92 v113 v115 v136 v138 v159 v161 v65 v65 v65 v65 v65 v65 v65 v65 v65 v65 v65 (constant S1024x256 .f32 0#32) v65 X_arg12 X_arg13 G_arg14 G_arg15 G_arg16 init

set_option warn.classDefReducibility false in
/-- The loop's generated invariant at the values the region does not use filled in. -/
@[sl_loop] def loopInv_t4' (𝒱 : Variants) (c : Dev nD) (bd : Option 𝒱.V) (E : Set ℕ) (i : grid0.Coords) (arg2 : Memref sig .tc .smem S8 .f32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x8192x128 .bf16) (harg11 : arg11.IsWhole) (arg12 : Memref sig .tc .vmem S2x8x1024x128 .bf16) (harg12 : arg12.IsWhole) (arg13 : Memref sig .tc .vmem S8x144x1024 .bf16) (harg13 : arg13.IsWhole) (arg14 : Memref sig .tc .vmem S4x2x144x256 .f32) (harg14 : arg14.IsWhole) (arg15 : Memref sig .tc .vmem S2x1024x256 .f32) (harg15 : arg15.IsWhole) (arg16 : Memref sig .tc .vmem S2x1024x256 .f32) (harg16 : arg16.IsWhole) (v2 : F .f32) (v65 : FVec F S1x256 .f32) (k0_t2 : Fin k0_t2_loop.trips) (arg17 : BitVec 32) (v90 : FVec F S128x256 .bf16) (v92 : FVec F S128x256 .bf16) (v113 : FVec F S128x256 .bf16) (v115 : FVec F S128x256 .bf16) (v136 : FVec F S128x256 .bf16) (v138 : FVec F S128x256 .bf16) (v159 : FVec F S128x256 .bf16) (v161 : FVec F S128x256 .bf16) (v464 : BitVec 32) (X_arg12 : BufTy.Contents (Elt F) arg12.view.ty) (X_arg13 : BufTy.Contents (Elt F) arg13.view.ty) (G_arg14 : BufTy.Contents (Elt F) arg14.view.ty) (G_arg15 : BufTy.Contents (Elt F) arg15.view.ty) (G_arg16 : BufTy.Contents (Elt F) arg16.view.ty) (init : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32) :=
  loopInv_k0_t4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v65 k0_t2 arg17 v90 v92 v113 v115 v136 v138 v159 v161 v65 v65 v65 v65 v65 v65 v65 v65 v65 v65 v65 (constant S1024x256 .f32 0#32) v65 v464 X_arg12 X_arg13 G_arg14 G_arg15 G_arg16 init

set_option warn.classDefReducibility false in
/-- The loop over the blocks of query rows: every trip keeps what it reads and leaves what it writes at some contents. -/
@[sl_loop] def loopInv_k0_t2 (𝒱 : Variants) (c : Dev nD) (bd : Option 𝒱.V) (E : Set ℕ) (i : grid0.Coords) (arg2 : Memref sig .tc .smem S8 .f32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x8192x128 .bf16) (harg11 : arg11.IsWhole) (arg12 : Memref sig .tc .vmem S2x8x1024x128 .bf16) (harg12 : arg12.IsWhole) (arg13 : Memref sig .tc .vmem S8x144x1024 .bf16) (harg13 : arg13.IsWhole) (arg14 : Memref sig .tc .vmem S4x2x144x256 .f32) (harg14 : arg14.IsWhole) (arg15 : Memref sig .tc .vmem S2x1024x256 .f32) (harg15 : arg15.IsWhole) (arg16 : Memref sig .tc .vmem S2x1024x256 .f32) (harg16 : arg16.IsWhole) (v2 : F .f32) (v42 : Vec F S1x64 .f32) (v44 : Vec F S1x64 .f32) (v50 : Vec F S1x64 .f32) (v52 : Vec F S1x64 .f32) (v61 : IVec S256x128 32)
    (X_arg3 : BufTy.Contents (Elt F) arg3.view.ty) (X_arg10 : BufTy.Contents (Elt F) arg10.view.ty) (X_arg12 : BufTy.Contents (Elt F) arg12.view.ty) (X_arg13 : BufTy.Contents (Elt F) arg13.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v2 v42 v44 v50 v52 v61 where
  inv _ _ := iprop((arg3.view.loc (c : Thread nD τ) ↦[arg3.view.set]{fullShare} X_arg3) ∗ (arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (∃ f, (arg11.view.loc (c : Thread nD τ) ↦[arg11.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)))
  step k acc := by
    have hk : k.val < 8 := Nat.lt_of_lt_of_le k.isLt k0_t2_abs.2.1
    unfold k0_t2_body
    iintro ⟨H3, H10, H12, H13, ⟨%f11, H11⟩, ⟨%f14, H14⟩, ⟨%f15, H15⟩, ⟨%f16, H16⟩⟩
    sl_exec
    sl_step
    isplitl [H3]; · iexact H3
    isplitl [H10]; · iexact H10
    isplitl [H12]; · iexact H12
    isplitl [H13]; · iexact H13
    isplitl [H11]; · iexists _; iexact H11
    isplitl [H14]; · iexists _; iexact H14
    isplitl [H15]; · iexists _; iexact H15
    iexists _; iexact H16

theorem sound_kernel (c : Dev nD) (E : Set ℕ) (i : grid0.Coords) (arg2 : Memref sig .tc .smem S8 .f32) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x8192x128 .bf16) (harg11 : arg11.IsWhole) (arg12 : Memref sig .tc .vmem S2x8x1024x128 .bf16) (harg12 : arg12.IsWhole) (arg13 : Memref sig .tc .vmem S8x144x1024 .bf16) (harg13 : arg13.IsWhole) (arg14 : Memref sig .tc .vmem S4x2x144x256 .f32) (harg14 : arg14.IsWhole) (arg15 : Memref sig .tc .vmem S2x1024x256 .f32) (harg15 : arg15.IsWhole) (arg16 : Memref sig .tc .vmem S2x1024x256 .f32) (harg16 : arg16.IsWhole)
    (x0 : Vec F S8 .f32) (x1 : Vec F S1x8192x128 .bf16) (x2 : Vec F S1x8192x128 .bf16) (x3 : Vec F S1x8192x128 .bf16) (x4 : Vec F S1x64 .f32) (x5 : Vec F S1x64 .f32) (x6 : Vec F S1x64 .f32) (x7 : Vec F S1x64 .f32) (x8 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_diff_attn_eq_skeleton]; unfold cc0_diff_attn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  iexists _, _; isplitr
  swap; · iexact H14
  ipureintro; rfl

theorem owns_of_whole (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  rw [owns_whole]
theorem whole_of_owns (c : Dev nD) (b : Ref sig .tc) (f : Buf (Elt F) ((c : Thread nD τ).loc b)) :
    (owns (c : Thread nD τ) (Memref.whole b) fullShare f : sProp 𝕄) ⊢ (((c : Thread nD τ).loc b) ↦{fullShare} f) := by
  rw [owns_whole]

variable (m : (ℓ : Loc nD τ sig) → Buf (Elt F) ℓ) (ρ : Dev nD → PrngReg)

/-- The proof data: the arrays as the region finds them, each input's buffer at its block; the result's window is forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The window of the result, of which the frame says nothing. -/
def fgt : Fin cfg0.W → Bool := fun w => w.val == 9

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

/-- The body at any point: the inputs' buffers hold their blocks, the scratch buffers anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8,
    show (dats m 0 c).Φ t.castSucc = Pipeline.ΦA spec0 c from rfl]
  unfold Pipeline.ΦA
  rw [scopedRest0_eq]
  iintro ⟨⟨⟨⟨%s0, S0⟩, ⟨%s1, S1⟩, ⟨%s2, S2⟩, ⟨%s3, S3⟩, ⟨%s4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexists _; iapply (owns_of_whole c _ _) $$ S0
  isplitl [S1]; · iexists _; iapply (owns_of_whole c _ _) $$ S1
  isplitl [S2]; · iexists _; iapply (owns_of_whole c _ _) $$ S2
  isplitl [S3]; · iexists _; iapply (owns_of_whole c _ _) $$ S3
  isplitl [S4]; · iexists _; iapply (owns_of_whole c _ _) $$ S4
  iintro ⟨H0, H1, H2, H3, H4, H5, H6, H7, H8, H9, ⟨%e0, S0⟩, ⟨%e1, S1⟩, ⟨%e2, S2⟩, ⟨%e3, S3⟩, ⟨%e4, S4⟩⟩
  isplitl [S0 S1 S2 S3 S4 Hp]
  · isplitl [S0 S1 S2 S3 S4]
    · isplitl [S0]; · iexists _; iapply (whole_of_owns c _ _) $$ S0
      isplitl [S1]; · iexists _; iapply (whole_of_owns c _ _) $$ S1
      isplitl [S2]; · iexists _; iapply (whole_of_owns c _ _) $$ S2
      isplitl [S3]; · iexists _; iapply (whole_of_owns c _ _) $$ S3
      iexists _; iapply (whole_of_owns c _ _) $$ S4
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: every array of the pipeline but the result at what the proof data says, every other buffer as the region found it. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ) :=
  (θ_run defs _ _).mono (fun r h c => ⟨(Pipeline.RDat.FramePost.arr_in h.1 c 3 rfl).trans ((A_eq m c 3).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ)

/-- The frame: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ) ∧ r.2.sem = fun _ => 0) :=
  θ_run_and (unchanged m ρ) ((θ_run defs _ _).mono (fun _ h => h.2) (run_main m ρ))

end Cert.DiffIdeal.Hand

end
-- ==== Proof.Inproj.Value.lean ====
/-
  The values of `InprojIdeal`: the arrays that its run leaves are the ones the reference computes.
-/
module

public import proofs.«01_k».proof.Proof.Gen.InprojIdeal.Frame
public import proofs.«01_k».proof.Proof.Gen.InprojRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.InprojIdeal.Eq

open Cert.InprojIdeal Cert.InprojIdeal.Gen

variable (m : (ℓ : Loc nD τ sig) → Buf (Elt Ideal) ℓ)

/-- The normalised rows of the reference. -/
def hN (a0 : FVec Ideal Cert.InprojRefIdeal.S16384x1024 .f32) (a1 : FVec Ideal Cert.InprojRefIdeal.S1024 .f32) : FVec Ideal Cert.InprojRefIdeal.S16384x1024 .bf16 :=
  truncf .bf16 (mulf (mulf a0 (broadcastInDim Cert.InprojRefIdeal.S16384x1024 ![0, 1] Cert.InprojRefIdeal.Gen.bcast_S16384x1_S16384x1024_0_1 (Host.rsqrt (addf (Host.divf (broadcastInDim Cert.InprojRefIdeal.S16384x1 ![0] Cert.InprojRefIdeal.Gen.bcast_S16384_S16384x1_0 (Host.reduceAdd (mulf a0 a0) (constant Cert.InprojRefIdeal.S_ .f32 0x00000000#32) Cert.InprojRefIdeal.Gen.reducesTo_S16384x1024_S16384_d1 Cert.InprojRefIdeal.Gen.h_S_)) (broadcastInDim Cert.InprojRefIdeal.S16384x1 ![] Cert.InprojRefIdeal.Gen.bcast_S_S16384x1 (constant Cert.InprojRefIdeal.S_ .f32 0x44800000#32))) (broadcastInDim Cert.InprojRefIdeal.S16384x1 ![] Cert.InprojRefIdeal.Gen.bcast_S_S16384x1 (constant Cert.InprojRefIdeal.S_ .f32 0x3727C5AC#32)))))) (broadcastInDim Cert.InprojRefIdeal.S16384x1024 ![0, 1] Cert.InprojRefIdeal.Gen.bcast_S1x1024_S16384x1024_0_1 (broadcastInDim Cert.InprojRefIdeal.S1x1024 ![1] Cert.InprojRefIdeal.Gen.bcast_S1024_S1x1024_1 a1))) Cert.InprojRefIdeal.Gen.bitsLt_bf16_f32

/-- The projection of the normalised rows. -/
def PRJ (a0 : FVec Ideal Cert.InprojRefIdeal.S16384x1024 .f32) (a1 : FVec Ideal Cert.InprojRefIdeal.S1024 .f32) (a2 : FVec Ideal Cert.InprojRefIdeal.S1024x9728 .f32) : FVec Ideal Cert.InprojRefIdeal.S16384x9728 .f32 :=
  Host.dotGeneral Cert.InprojRefIdeal.dot_S16384x1024_S1024x9728_S16384x9728_1_0_0_1_n_n none (hN a0 a1) (truncf .bf16 a2 Cert.InprojRefIdeal.Gen.bitsLt_bf16_f32)

/-- The first array of the reference: the columns of both attentions. -/
abbrev REF_v35 (a0 : FVec Ideal Cert.InprojRefIdeal.S16384x1024 .f32) (a1 : FVec Ideal Cert.InprojRefIdeal.S1024 .f32) (a2 : FVec Ideal Cert.InprojRefIdeal.S1024x9728 .f32) : FVec Ideal Cert.InprojRefIdeal.S16384x7680 .bf16 :=
  truncf .bf16 ((concatenate Cert.InprojRefIdeal.S16384x7680 1 [⟨Cert.InprojRefIdeal.S16384x1024, ((mulf (extractStridedSlice Cert.InprojRefIdeal.S16384x1024 ![0, 0] (PRJ a0 a1 a2) Cert.InprojRefIdeal.Gen.slices_S16384x9728_S16384x1024_0_0) (broadcastInDim Cert.InprojRefIdeal.S16384x1024 ![] Cert.InprojRefIdeal.Gen.bcast_S_S16384x1024 (constant Cert.InprojRefIdeal.S_ .f32 0x3E38AA3B#32))))⟩, ⟨Cert.InprojRefIdeal.S16384x2048, ((extractStridedSlice Cert.InprojRefIdeal.S16384x2048 ![0, 1024] (PRJ a0 a1 a2) Cert.InprojRefIdeal.Gen.slices_S16384x9728_S16384x2048_0_1024))⟩, ⟨Cert.InprojRefIdeal.S16384x1536, ((mulf (extractStridedSlice Cert.InprojRefIdeal.S16384x1536 ![0, 3072] (PRJ a0 a1 a2) Cert.InprojRefIdeal.Gen.slices_S16384x9728_S16384x1536_0_3072) (broadcastInDim Cert.InprojRefIdeal.S16384x1536 ![] Cert.InprojRefIdeal.Gen.bcast_S_S16384x1536 (constant Cert.InprojRefIdeal.S_ .f32 0x3E0293EE#32))))⟩, ⟨Cert.InprojRefIdeal.S16384x3072, ((extractStridedSlice Cert.InprojRefIdeal.S16384x3072 ![0, 4608] (PRJ a0 a1 a2) Cert.InprojRefIdeal.Gen.slices_S16384x9728_S16384x3072_0_4608))⟩] Cert.InprojRefIdeal.Gen.concatenates_S16384x1024_S16384x2048_S16384x1536_S16384x3072_S16384x7680_d1)) Cert.InprojRefIdeal.Gen.bitsLt_bf16_f32

/-- The second array of the reference: the gates. -/
abbrev REF_v33 (a0 : FVec Ideal Cert.InprojRefIdeal.S16384x1024 .f32) (a1 : FVec Ideal Cert.InprojRefIdeal.S1024 .f32) (a2 : FVec Ideal Cert.InprojRefIdeal.S1024x9728 .f32) (a3 : FVec Ideal Cert.InprojRefIdeal.S2048 .f32) : FVec Ideal Cert.InprojRefIdeal.S16384x2048 .f32 :=
  Host.divf (broadcastInDim Cert.InprojRefIdeal.S16384x2048 ![] Cert.InprojRefIdeal.Gen.bcast_S_S16384x2048 (constant Cert.InprojRefIdeal.S_ .f32 0x3F800000#32)) (addf (broadcastInDim Cert.InprojRefIdeal.S16384x2048 ![] Cert.InprojRefIdeal.Gen.bcast_S_S16384x2048 (constant Cert.InprojRefIdeal.S_ .f32 0x3F800000#32)) (Host.exp (Host.negf (addf (extractStridedSlice Cert.InprojRefIdeal.S16384x2048 ![0, 7680] (PRJ a0 a1 a2) Cert.InprojRefIdeal.Gen.slices_S16384x9728_S16384x2048_0_7680) (broadcastInDim Cert.InprojRefIdeal.S16384x2048 ![0, 1] Cert.InprojRefIdeal.Gen.bcast_S1x2048_S16384x2048_0_1 (broadcastInDim Cert.InprojRefIdeal.S1x2048 ![1] Cert.InprojRefIdeal.Gen.bcast_S2048_S1x2048_1 a3))))))

/-- Every window's block index at every grid point. -/
theorem idx : ∀ t : Fin cfg0.N, win0_0.index t = ![(grid0.coords t 0).val, 0]
    ∧ win0_1.index t = ![0, 0]
    ∧ win0_2.index t = ![0, 0]
    ∧ win0_3.index t = ![0, 0]
    ∧ win0_4.index t = ![(grid0.coords t 0).val, 0]
    ∧ win0_5.index t = ![(grid0.coords t 0).val, 0] :=
  (by decide +kernel : ∀ t : Fin grid0.N, _)

/-- Every window's block index, by the point's number. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0] :=
  (by decide +kernel : ∀ t : Fin grid0.N, _)

/-- The normalised rows of a point's block are the reference's rows. -/
theorem rows (c : Dev nD) (t : Fin cfg0.N) (i : S512x1024.Idx) (j : Cert.InprojRefIdeal.S16384x1024.Idx) (h0 : (j 0 : ℕ) = t.val * 512 + i 0) (h1 : (j 1 : ℕ) = i 1) :
    k0_pay3 (F := Ideal) (iblk m c 0 t) (iblk m c 1 t) i = hN (m ((c : Thread nD τ).loc main_arg0)) (m ((c : Thread nD τ).loc main_arg1)) j := by
  pointwise [k0_pay3, hN]
  blk_point [iblk, V, idx_val t]

theorem zA (a0 : FVec Ideal Cert.InprojRefIdeal.S16384x1024 .f32) (a1 : FVec Ideal Cert.InprojRefIdeal.S1024 .f32) (a2 : FVec Ideal Cert.InprojRefIdeal.S1024x9728 .f32) (j : Cert.InprojRefIdeal.S16384x7680.Idx) (k : Cert.InprojRefIdeal.S16384x9728.Idx) (hk0 : (k 0 : ℕ) = j 0) (hk1 : (k 1 : ℕ) = j 1) (h : (j 1 : ℕ) < 1024) :
    REF_v35 a0 a1 a2 j = PRJ a0 a1 a2 k * Ideal.ofBits FTy.f32 0x3E38AA3B#32 := by
  pointwise [REF_v35]
  rw [dif_pos (by omega)]
  blk_point

theorem zB (a0 : FVec Ideal Cert.InprojRefIdeal.S16384x1024 .f32) (a1 : FVec Ideal Cert.InprojRefIdeal.S1024 .f32) (a2 : FVec Ideal Cert.InprojRefIdeal.S1024x9728 .f32) (j : Cert.InprojRefIdeal.S16384x7680.Idx) (k : Cert.InprojRefIdeal.S16384x9728.Idx) (hk0 : (k 0 : ℕ) = j 0) (hk1 : (k 1 : ℕ) = j 1) (h0 : 1024 ≤ (j 1 : ℕ)) (h : (j 1 : ℕ) < 3072) :
    REF_v35 a0 a1 a2 j = PRJ a0 a1 a2 k := by
  pointwise [REF_v35]
  rw [dif_neg (by omega), dif_pos (by omega)]
  blk_point

theorem zC (a0 : FVec Ideal Cert.InprojRefIdeal.S16384x1024 .f32) (a1 : FVec Ideal Cert.InprojRefIdeal.S1024 .f32) (a2 : FVec Ideal Cert.InprojRefIdeal.S1024x9728 .f32) (j : Cert.InprojRefIdeal.S16384x7680.Idx) (k : Cert.InprojRefIdeal.S16384x9728.Idx) (hk0 : (k 0 : ℕ) = j 0) (hk1 : (k 1 : ℕ) = j 1) (h0 : 3072 ≤ (j 1 : ℕ)) (h : (j 1 : ℕ) < 4608) :
    REF_v35 a0 a1 a2 j = PRJ a0 a1 a2 k * Ideal.ofBits FTy.f32 0x3E0293EE#32 := by
  pointwise [REF_v35]
  rw [dif_neg (by omega), dif_neg (by omega), dif_pos (by omega)]
  blk_point

theorem zD (a0 : FVec Ideal Cert.InprojRefIdeal.S16384x1024 .f32) (a1 : FVec Ideal Cert.InprojRefIdeal.S1024 .f32) (a2 : FVec Ideal Cert.InprojRefIdeal.S1024x9728 .f32) (j : Cert.InprojRefIdeal.S16384x7680.Idx) (k : Cert.InprojRefIdeal.S16384x9728.Idx) (hk0 : (k 0 : ℕ) = j 0) (hk1 : (k 1 : ℕ) = j 1) (h0 : 4608 ≤ (j 1 : ℕ)) :
    REF_v35 a0 a1 a2 j = PRJ a0 a1 a2 k := by
  pointwise [REF_v35]
  rw [dif_neg (by omega), dif_neg (by omega), dif_neg (by omega)]
  blk_point

set_option maxHeartbeats 4000000 in
/-- What the body stores for the columns at a point is the reference there. -/
theorem point_4 (c : Dev nD) (t : Fin cfg0.N) (y) :
    out0_4 (iblk m c 0 t) (iblk m c 1 t) (iblk m c 2 t) (iblk m c 3 t) y
      = REF_v35 (m ((c : Thread nD τ).loc main_arg0)) (m ((c : Thread nD τ).loc main_arg1)) (m ((c : Thread nD τ).loc main_arg2)) (((cfg0.win 4).blk t).view.emb y) := by
  obtain_idx k : Cert.InprojRefIdeal.S16384x9728 := [t.val * 512 + (y 0 : ℕ), (y 1 : ℕ)] with hk
  have e0 : (k 0 : ℕ) = (((cfg0.win 4).blk t).view.emb y) 0 := by blk_simp [idx_val t]; omega
  have e1 : (k 1 : ℕ) = (((cfg0.win 4).blk t).view.emb y) 1 := by blk_simp [idx_val t]; omega
  canon_tiles x h
  all_goals
    first
    | rw [zD _ _ _ _ k e0 e1 (by omega)]
    | rw [zC _ _ _ _ k e0 e1 (by omega) (by omega)]
    | rw [zB _ _ _ _ k e0 e1 (by omega) (by omega)]
    | rw [zA _ _ _ _ k e0 e1 (by omega)]
    open_payloads
    pointwise [PRJ, hN]
    blk_point [iblk, V, idx_val t]

theorem final_4 (c : Dev nD) : (dats m 0 c).arrAt 4 (cfgs 0).N = REF_v35 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  exact point_4 m c t y

theorem one_bits : Ideal.ofBits FTy.f32 0x3F800000#32 = 1 := by
  simp [Ideal.ofBits, Ideal.ieee, -EReal.coe_mul]
  norm_num

set_option maxHeartbeats 4000000 in
/-- What the body stores for the gates at a point is the reference there. -/
theorem point_5 (c : Dev nD) (t : Fin cfg0.N) (y) :
    out0_5 (iblk m c 0 t) (iblk m c 1 t) (iblk m c 2 t) (iblk m c 3 t) y
      = REF_v33 (m ((c : Thread nD τ).loc main_arg0)) (m ((c : Thread nD τ).loc main_arg1)) (m ((c : Thread nD τ).loc main_arg2)) (m ((c : Thread nD τ).loc main_arg3)) (((cfg0.win 5).blk t).view.emb y) := by
  canon_tiles x h
  all_goals
    open_payloads
    pointwise [REF_v33, PRJ, hN]
    simp only [Ideal.logistic, one_bits]
    blk_point [iblk, V, idx_val t]

theorem final_5 (c : Dev nD) : (dats m 0 c).arrAt 5 (cfgs 0).N = REF_v33 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point_5 m c t y

end Cert.InprojIdeal.Eq

end
-- ==== Proof.Mix.Value.lean ====
/-
  The values of `MixIdeal`: the arrays that its run leaves are the ones the reference computes.
-/
module

public import proofs.«01_k».proof.Proof.Gen.MixIdeal.Frame
public import proofs.«01_k».proof.Proof.Gen.MixRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MixIdeal.Eq

open Cert.MixIdeal Cert.MixIdeal.Gen

variable (m : (ℓ : Loc nD τ sig) → Buf (Elt Ideal) ℓ)

/-- `Cert.MixRefIdeal`'s main_v12 as its composed term over its arguments main_arg0, main_arg1, main_arg2, main_arg3, main_arg4, main_arg5, main_arg6. -/
abbrev REF (a0 : FVec Ideal Cert.MixRefIdeal.S16384x1024 .bf16) (a1 : FVec Ideal Cert.MixRefIdeal.S16384x512 .bf16) (a2 : FVec Ideal Cert.MixRefIdeal.S16384x2048 .f32) (a3 : FVec Ideal Cert.MixRefIdeal.S16384x1024 .f32) (a4 : FVec Ideal Cert.MixRefIdeal.S1024x1024 .f32) (a5 : FVec Ideal Cert.MixRefIdeal.S512x1024 .f32) (a6 : FVec Ideal Cert.MixRefIdeal.S1024x1024 .f32) : FVec Ideal Cert.MixRefIdeal.S16384x1024 .f32 :=
  addf a3 (Host.dotGeneral Cert.MixRefIdeal.dot_S16384x1024_S1024x1024_S16384x1024_1_0_0_1_n_n none ((truncf .bf16 (addf (mulf ((extractStridedSlice Cert.MixRefIdeal.S16384x1024 ![0, 0] a2 Cert.MixRefIdeal.Gen.slices_S16384x2048_S16384x1024_0_0)) (Host.dotGeneral Cert.MixRefIdeal.dot_S16384x1024_S1024x1024_S16384x1024_1_0_0_1_n_n none a0 ((truncf .bf16 a4 Cert.MixRefIdeal.Gen.bitsLt_bf16_f32)))) (mulf ((extractStridedSlice Cert.MixRefIdeal.S16384x1024 ![0, 1024] a2 Cert.MixRefIdeal.Gen.slices_S16384x2048_S16384x1024_0_1024)) (Host.dotGeneral Cert.MixRefIdeal.dot_S16384x512_S512x1024_S16384x1024_1_0_0_1_n_n none a1 ((truncf .bf16 a5 Cert.MixRefIdeal.Gen.bitsLt_bf16_f32))))) Cert.MixRefIdeal.Gen.bitsLt_bf16_f32)) ((truncf .bf16 a6 Cert.MixRefIdeal.Gen.bitsLt_bf16_f32)))

/-- Every window's block index at every grid point. -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 1]
    ∧ win0_4.index t = ![(grid0.coords t 0).val, 0]
    ∧ win0_5.index t = ![0, 0]
    ∧ win0_6.index t = ![0, 0]
    ∧ win0_7.index t = ![0, 0]
    ∧ win0_8.index t = ![(grid0.coords t 0).val, 0] :=
  (by decide +kernel : ∀ t : Fin grid0.N, _)

/-- Every window's block index, by the point's number. -/
theorem idx_val : ∀ t : Fin cfg0.N, win0_0.index t = ![t.val, 0]
    ∧ win0_1.index t = ![t.val, 0]
    ∧ win0_2.index t = ![t.val, 0]
    ∧ win0_3.index t = ![t.val, 1]
    ∧ win0_4.index t = ![t.val, 0]
    ∧ win0_5.index t = ![0, 0]
    ∧ win0_6.index t = ![0, 0]
    ∧ win0_7.index t = ![0, 0]
    ∧ win0_8.index t = ![t.val, 0] :=
  (by decide +kernel : ∀ t : Fin grid0.N, _)

/-- POINT: what the body stores at block index `y` of point `t` is the reference at the array index `y` sits at. -/
theorem point (c : Dev nD) (t : Fin cfg0.N) (y) :
    k0_pay1 (iblk m c 0 t) (iblk m c 5 t) (iblk m c 1 t) (iblk m c 6 t) (iblk m c 2 t) (iblk m c 3 t) (iblk m c 4 t)
      (iblk m c 7 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (((cfg0.win 8).blk t).view.emb y) := by
  pointwise [k0_pay1, REF]; blk_point [iblk, V, idx_val t]

/-- BRIDGE: the result array after the run. -/
theorem final (c : Dev nD) : (dats m 0 c).arrAt 8 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp; rw [after0_8]; frame_out
  exact point m c t y

end Cert.MixIdeal.Eq

end
-- ==== Proof.Memkv.Value.lean ====
/-
  The values of `MemkvIdeal`: the arrays that its run leaves are the ones the reference computes.
-/
module

public import proofs.«01_k».proof.Proof.Gen.MemkvIdeal.Frame
public import proofs.«01_k».proof.Proof.Gen.MemkvRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MemkvIdeal.Eq

open Cert.MemkvIdeal Cert.MemkvIdeal.Gen

variable (m : (ℓ : Loc nD τ sig) → Buf (Elt Ideal) ℓ)

/-- `Cert.MemkvRefIdeal`'s main_v18 as its composed term over its arguments main_arg0, main_arg1, main_arg2. -/
abbrev REF_v18 (a0 : FVec Ideal Cert.MemkvRefIdeal.S2x256x1024 .f32) (a1 : FVec Ideal Cert.MemkvRefIdeal.S1024 .f32) (a2 : FVec Ideal Cert.MemkvRefIdeal.S1024x2048 .f32) : FVec Ideal Cert.MemkvRefIdeal.S2x1024x256 .bf16 :=
  (truncf .bf16 ((transpose Cert.MemkvRefIdeal.S2x1024x256 [0, 2, 1] ((extractStridedSlice Cert.MemkvRefIdeal.S2x256x1024 ![0, 0, 0] (Host.dotGeneral Cert.MemkvRefIdeal.dot_S2x256x1024_S1024x2048_S2x256x2048_2_0_01_1_n_n none ((truncf .bf16 (mulf (mulf a0 (broadcastInDim Cert.MemkvRefIdeal.S2x256x1024 ![0, 1, 2] Cert.MemkvRefIdeal.Gen.bcast_S2x256x1_S2x256x1024_0_1_2 (Host.rsqrt (addf (Host.divf (broadcastInDim Cert.MemkvRefIdeal.S2x256x1 ![0, 1] Cert.MemkvRefIdeal.Gen.bcast_S2x256_S2x256x1_0_1 ((fun x v => Host.reduceAdd x v Cert.MemkvRefIdeal.Gen.reducesTo_S2x256x1024_S2x256_d2 Cert.MemkvRefIdeal.Gen.h_S_) (mulf a0 a0) (constant Cert.MemkvRefIdeal.S_ .f32 0x00000000#32))) (broadcastInDim Cert.MemkvRefIdeal.S2x256x1 ![] Cert.MemkvRefIdeal.Gen.bcast_S_S2x256x1 (constant Cert.MemkvRefIdeal.S_ .f32 0x44800000#32))) (broadcastInDim Cert.MemkvRefIdeal.S2x256x1 ![] Cert.MemkvRefIdeal.Gen.bcast_S_S2x256x1 (constant Cert.MemkvRefIdeal.S_ .f32 0x3727C5AC#32)))))) (broadcastInDim Cert.MemkvRefIdeal.S2x256x1024 ![0, 1, 2] Cert.MemkvRefIdeal.Gen.bcast_S1x1x1024_S2x256x1024_0_1_2 (broadcastInDim Cert.MemkvRefIdeal.S1x1x1024 ![2] Cert.MemkvRefIdeal.Gen.bcast_S1024_S1x1x1024_2 a1))) Cert.MemkvRefIdeal.Gen.bitsLt_bf16_f32)) ((truncf .bf16 a2 Cert.MemkvRefIdeal.Gen.bitsLt_bf16_f32))) Cert.MemkvRefIdeal.Gen.slices_S2x256x2048_S2x256x1024_0_0_0)) Cert.MemkvRefIdeal.Gen.transposes_S2x256x1024_S2x1024x256_0_2_1)) Cert.MemkvRefIdeal.Gen.bitsLt_bf16_f32)

/-- `Cert.MemkvRefIdeal`'s main_v20 as its composed term over its arguments main_arg0, main_arg1, main_arg2. -/
abbrev REF_v20 (a0 : FVec Ideal Cert.MemkvRefIdeal.S2x256x1024 .f32) (a1 : FVec Ideal Cert.MemkvRefIdeal.S1024 .f32) (a2 : FVec Ideal Cert.MemkvRefIdeal.S1024x2048 .f32) : FVec Ideal Cert.MemkvRefIdeal.S2x256x1024 .bf16 :=
  (truncf .bf16 ((extractStridedSlice Cert.MemkvRefIdeal.S2x256x1024 ![0, 0, 1024] (Host.dotGeneral Cert.MemkvRefIdeal.dot_S2x256x1024_S1024x2048_S2x256x2048_2_0_01_1_n_n none ((truncf .bf16 (mulf (mulf a0 (broadcastInDim Cert.MemkvRefIdeal.S2x256x1024 ![0, 1, 2] Cert.MemkvRefIdeal.Gen.bcast_S2x256x1_S2x256x1024_0_1_2 (Host.rsqrt (addf (Host.divf (broadcastInDim Cert.MemkvRefIdeal.S2x256x1 ![0, 1] Cert.MemkvRefIdeal.Gen.bcast_S2x256_S2x256x1_0_1 ((fun x v => Host.reduceAdd x v Cert.MemkvRefIdeal.Gen.reducesTo_S2x256x1024_S2x256_d2 Cert.MemkvRefIdeal.Gen.h_S_) (mulf a0 a0) (constant Cert.MemkvRefIdeal.S_ .f32 0x00000000#32))) (broadcastInDim Cert.MemkvRefIdeal.S2x256x1 ![] Cert.MemkvRefIdeal.Gen.bcast_S_S2x256x1 (constant Cert.MemkvRefIdeal.S_ .f32 0x44800000#32))) (broadcastInDim Cert.MemkvRefIdeal.S2x256x1 ![] Cert.MemkvRefIdeal.Gen.bcast_S_S2x256x1 (constant Cert.MemkvRefIdeal.S_ .f32 0x3727C5AC#32)))))) (broadcastInDim Cert.MemkvRefIdeal.S2x256x1024 ![0, 1, 2] Cert.MemkvRefIdeal.Gen.bcast_S1x1x1024_S2x256x1024_0_1_2 (broadcastInDim Cert.MemkvRefIdeal.S1x1x1024 ![2] Cert.MemkvRefIdeal.Gen.bcast_S1024_S1x1x1024_2 a1))) Cert.MemkvRefIdeal.Gen.bitsLt_bf16_f32)) ((truncf .bf16 a2 Cert.MemkvRefIdeal.Gen.bitsLt_bf16_f32))) Cert.MemkvRefIdeal.Gen.slices_S2x256x2048_S2x256x1024_0_0_1024)) Cert.MemkvRefIdeal.Gen.bitsLt_bf16_f32)

/-- Every window's block index at every grid point. -/
theorem idx : ∀ t : Fin cfg0.N, win0_0.index t = ![(grid0.coords t 0).val, 0, 0]
    ∧ win0_1.index t = ![0, 0]
    ∧ win0_2.index t = ![0, 0]
    ∧ win0_3.index t = ![(grid0.coords t 0).val, 0, 0]
    ∧ win0_4.index t = ![(grid0.coords t 0).val, 0, 0] :=
  (by decide +kernel : ∀ t : Fin grid0.N, _)

/-- Every window's block index, by the point's number. -/
theorem idx_val : ∀ t : Fin cfg0.N, win0_0.index t = ![t.val, 0, 0]
    ∧ win0_1.index t = ![0, 0]
    ∧ win0_2.index t = ![0, 0]
    ∧ win0_3.index t = ![t.val, 0, 0]
    ∧ win0_4.index t = ![t.val, 0, 0] :=
  (by decide +kernel : ∀ t : Fin grid0.N, _)

/-- POINT: what the body stores at block index `y` of point `t` is the reference at the array index `y` sits at. -/
theorem point_3 (c : Dev nD) (t : Fin cfg0.N) (y) :
    k0_pay2 (iblk m c 0 t) (iblk m c 1 t) (iblk m c 2 t) y
      = REF_v18 (m ((c : Thread nD τ).loc main_arg0)) (m ((c : Thread nD τ).loc main_arg1)) (m ((c : Thread nD τ).loc
        main_arg2)) (((cfg0.win 3).blk t).view.emb y) := by
  pointwise [k0_pay2, REF_v18]; blk_point [iblk, V, idx_val t]

/-- BRIDGE: the result array after the run. -/
theorem final_3 (c : Dev nD) : (dats m 0 c).arrAt 3 (cfgs 0).N = REF_v18 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point_3 m c t y

/-- POINT: what the body stores at block index `y` of point `t` is the reference at the array index `y` sits at. -/
theorem point_4 (c : Dev nD) (t : Fin cfg0.N) (y) :
    k0_pay3 (iblk m c 0 t) (iblk m c 1 t) (iblk m c 2 t) y
      = REF_v20 (m ((c : Thread nD τ).loc main_arg0)) (m ((c : Thread nD τ).loc main_arg1)) (m ((c : Thread nD τ).loc
        main_arg2)) (((cfg0.win 4).blk t).view.emb y) := by
  pointwise [k0_pay3, REF_v20]; blk_point [iblk, V, idx_val t]

/-- BRIDGE: the result array after the run. -/
theorem final_4 (c : Dev nD) : (dats m 0 c).arrAt 4 (cfgs 0).N = REF_v20 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_4 m c t y

end Cert.MemkvIdeal.Eq

end
-- ==== Proof.CrossIdeal.Softmax.lean ====
/-
  The softmax-weighted sum over the extended reals: dividing the sum by the weights' total, or each weight before it.
-/
module

public import Idealize.ShloMosaic.Lib.Pipeline.ValueKit
public import Idealize.ShloMosaic.Lib.IdealHost
public import Mathlib.Data.Finset.Fold

@[expose] public section

noncomputable section

open Idealize.ShloMosaic
open scoped BigOperators

namespace Cert.CrossIdeal.Eq

/-- An extended real that is a real. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.of_bounds {x : EReal} (h : x < ⊤) (h' : ⊥ < x) : IsReal x :=
  ⟨x.toReal, (EReal.coe_toReal h.ne h'.ne').symm⟩

theorem IsReal.lt_top {x : EReal} : IsReal x → x < ⊤
  | ⟨a, ha⟩ => by rw [ha]; exact EReal.coe_lt_top a

theorem IsReal.bot_lt {x : EReal} : IsReal x → ⊥ < x
  | ⟨a, ha⟩ => by rw [ha]; exact EReal.bot_lt_coe a

theorem sq_nonneg {x : EReal} : IsReal x → 0 ≤ x * x
  | ⟨a, ha⟩ => by rw [ha, ← EReal.coe_mul]; exact EReal.coe_nonneg.2 (mul_self_nonneg a)

theorem rsqrt_real {y : EReal} (h : 0 < y) : IsReal (Ideal.rsqrt y) := by
  induction y using EReal.rec with
  | bot => exact absurd h (by simp)
  | top => exact ⟨0, rfl⟩
  | coe r =>
    have hr : 0 < r := EReal.coe_pos.1 h
    refine ⟨(Real.sqrt r)⁻¹, ?_⟩
    show (if r < 0 then ⊥ else if r = 0 then ⊤ else (((Real.sqrt r)⁻¹ : ℝ) : EReal)) = _
    rw [if_neg (not_lt.2 hr.le), if_neg hr.ne']

theorem exp_pos {x : EReal} : IsReal x → ∃ r : ℝ, 0 < r ∧ Ideal.exp x = r
  | ⟨a, ha⟩ => ⟨Real.exp a, Real.exp_pos a, by rw [ha]; rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of a row, from the word of `-∞`. -/
def mx (s : Fin 256 → EReal) : EReal := Finset.univ.fold max (Ideal.ofBits .f32 0xFF800000#32) s

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem scale_real : Ideal.ofBits .f32 0x3D800000#32 = ((1 / 16 : ℝ) : EReal) := by
  simp [Ideal.ofBits, Ideal.ieee, -EReal.coe_mul]; norm_num

theorem width_real : Ideal.ofBits .f32 0x44800000#32 = ((1024 : ℝ) : EReal) := by
  simp [Ideal.ofBits, Ideal.ieee, -EReal.coe_mul]; norm_num

theorem eps_pos : 0 < Ideal.ofBits .f32 0x3727C5AC#32 := by
  simp [Ideal.ofBits, Ideal.ieee, -EReal.coe_mul]

theorem real_of_abs_lt {x : EReal} (h : Ideal.cmp .olt (max x (-x)) (Ideal.ofBits .f32 0x7F800000#32) = 1#1) : IsReal x := by
  rw [ofBits_inf] at h
  have h' : max x (-x) < ⊤ := by
    by_contra hn
    simp [Ideal.cmp, hn] at h
  refine IsReal.of_bounds (lt_of_le_of_lt (le_max_left _ _) h') ?_
  have hb := lt_of_le_of_lt (le_max_right _ _) h'
  rw [bot_lt_iff_ne_bot]
  rintro rfl
  simp at hb

/-- The reciprocal root of a mean square with a positive bias is real. -/
theorem rms_real {n e : EReal} (x : Fin 1024 → EReal) (h : ∀ k, IsReal (x k)) (hn : n = ((1024 : ℝ) : EReal)) (he : 0 < e) :
    IsReal (Ideal.rsqrt (Ideal.div (∑ k, x k * x k) n + e)) := by
  refine rsqrt_real (lt_of_lt_of_le he ?_)
  have h0 : n ≠ 0 := by rw [hn]; exact fun h => by have := EReal.coe_eq_zero.1 h; norm_num at this
  rw [Ideal.div, if_neg h0]
  refine le_add_of_nonneg_left (mul_nonneg (Finset.sum_nonneg fun k _ => sq_nonneg (h k)) ?_)
  rw [hn, ← EReal.coe_inv]
  exact EReal.coe_nonneg.2 (by norm_num)

/-- A row times the reciprocal root of its mean square is real: at an infinite entry the root's reciprocal is 0. -/
theorem norm_real {n e : EReal} (x : Fin 1024 → EReal) (hn : n = ((1024 : ℝ) : EReal)) (he : 0 < e) (k : Fin 1024) :
    IsReal (x k * Ideal.rsqrt (Ideal.div (∑ k, x k * x k) n + e)) := by
  by_cases h : ∀ k, IsReal (x k)
  · exact (h k).mul (rms_real x h hn he)
  obtain ⟨j, hj⟩ := not_forall.1 h
  have hsq : ∀ y : EReal, 0 ≤ y * y := fun y => by
    induction y using EReal.rec with
    | bot => simp
    | top => simp
    | coe r => exact sq_nonneg ⟨r, rfl⟩
  have ht : x j * x j = ⊤ := by
    revert hj
    generalize x j = y
    intro hj
    induction y using EReal.rec with
    | bot => simp
    | top => simp
    | coe r => exact absurd ⟨r, rfl⟩ hj
  have hs : ∑ k, x k * x k = ⊤ := top_le_iff.1 (ht ▸ Finset.single_le_sum (f := fun k => x k * x k) (fun k _ => hsq (x k)) (Finset.mem_univ j))
  have h0 : n ≠ 0 := by rw [hn]; exact fun h => by have := EReal.coe_eq_zero.1 h; norm_num at this
  rw [hs, Ideal.div, if_neg h0, hn, ← EReal.coe_inv, EReal.top_mul_coe_of_pos (by norm_num),
    EReal.top_add_of_ne_bot (fun hb => by rw [hb] at he; simp at he)]
  exact ⟨0, by show x k * 0 = _; simp⟩

theorem mx_real (s : Fin 256 → EReal) (h : ∀ k, IsReal (s k)) : IsReal (mx s) :=
  IsReal.of_bounds ((Finset.fold_max_lt _).2 ⟨ofBits_neg_inf ▸ bot_lt_top, fun k _ => (h k).lt_top⟩)
    ((Finset.lt_fold_max _).2 (.inr ⟨0, Finset.mem_univ _, (h 0).bot_lt⟩))

/-- A row's weights, before they are divided by their total. -/
def wt (s : Fin 256 → EReal) (k : Fin 256) : EReal := Ideal.exp (s k - mx s)

theorem total_pos (s : Fin 256 → EReal) (h : ∀ k, IsReal (s k)) : ∃ r : ℝ, 0 < r ∧ ∑ k, wt s k = r := by
  choose w hw e using fun k => exp_pos ((h k).sub (mx_real s h))
  refine ⟨∑ k, w k, Finset.sum_pos (fun k _ => hw k) ⟨0, Finset.mem_univ _⟩, ?_⟩
  rw [coe_sum]
  exact Finset.sum_congr rfl fun k _ => e k

theorem sum_mul_real {ι : Type} (s : Finset ι) (f : ι → EReal) (c : EReal) (h : 0 ≤ c) (h' : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h h', ih]

/-- Dividing the weighted sum by the total, and dividing each weight by it. -/
theorem soft (s v : Fin 256 → EReal) (h : ∀ k, IsReal (s k)) :
    (∑ k, wt s k * v k) * Ideal.div 1 (∑ k, wt s k) = ∑ k, v k * Ideal.div (wt s k) (∑ k, wt s k) := by
  obtain ⟨r, hr, e⟩ := total_pos s h
  have h0 : (r : EReal) ≠ 0 := fun h => hr.ne' (EReal.coe_eq_zero.1 h)
  have hi : Ideal.div 1 (r : EReal) = ((r⁻¹ : ℝ) : EReal) := by
    rw [Ideal.div, if_neg h0, one_mul, EReal.coe_inv]
  rw [e, hi, sum_mul_real _ _ _ (EReal.coe_nonneg.2 (inv_nonneg.2 hr.le)) (EReal.coe_ne_top _)]
  refine Finset.sum_congr rfl fun k _ => ?_
  rw [← Ideal.mul_one_div h0, hi, mul_comm (wt s k) (v k), mul_assoc]

end Cert.CrossIdeal.Eq

end
-- ==== Proof.CrossIdeal.Value.lean ====
/-
  The values of `CrossIdeal`: the array that its run leaves is the one the reference computes.
-/
module

public import proofs.«01_k».proof.Proof.CrossIdeal.Softmax
public import proofs.«01_k».proof.Proof.Gen.CrossIdeal.Frame
public import proofs.«01_k».proof.Proof.Gen.CrossRefIdeal.Read
public import proofs.«01_k».proof.Pre_finite_inputs
public import Idealize.ShloMosaic.Lib.Pipeline.ValueKit
public import Idealize.ShloMosaic.Lib.KernelVsHost
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.CrossIdeal.Eq

open Cert.CrossIdeal Cert.CrossIdeal.Gen Cert.CrossRefIdeal.Read

variable (m : (ℓ : Loc nD τ sig) → Buf (Elt Ideal) ℓ)

/-- One head's row: the softmax of the scores of a query row against the keys, and the values weighted by it. -/
def att (s v : Fin 256 → EReal) : EReal := (∑ k, wt s k * v k) * Ideal.div 1 (∑ k, wt s k)

theorem head0 (x : FVec Ideal S1x1024x1024 .f32) (g : FVec Ideal S1x1024 .f32) (w : FVec Ideal S1024x1024 .bf16) (kk vv : FVec Ideal S1x256x256 .bf16) (y : S1024x256.Idx) :
    k0_pay8 (F := Ideal) (k0_pay5 x g w kk) (k0_pay6 x g w kk) (k0_pay7 vv) y
      = att (fun k => ∑ e : Fin 256, k0_pay3 (F := Ideal) x g w (ix2 (y 0) ⟨e.val, by omega⟩) * kk (ix3 0 e k)) (fun k => vv (ix3 0 k (y 1))) := by
  unfold k0_pay6 k0_pay5 k0_pay4
  generalize k0_pay3 (F := Ideal) x g w = q
  pointwise [k0_pay8, k0_pay7, att, wt, mx]

theorem head1 (q : FVec Ideal S1024x1024 .bf16) (kk vv : FVec Ideal S1x256x256 .bf16) (y : S1024x256.Idx) :
    k0_pay9 (F := Ideal) q kk vv y = att (fun k => ∑ e : Fin 256, q (ix2 (y 0) ⟨256 + e.val, by omega⟩) * kk (ix3 0 e k)) (fun k => vv (ix3 0 k (y 1))) := by
  pointwise [k0_pay9, att, wt, mx]

/-- What the body stores: the row, and its four heads side by side through the output projection. -/
theorem out_pay (x : FVec Ideal S1024x1024 .f32) (q : FVec Ideal S1024x1024 .bf16) (o0 o1 : FVec Ideal S1024x256 .f32) (k2 v2 k3 v3 : FVec Ideal S1x256x256 .bf16) (wo : FVec Ideal S1024x1024 .bf16) (y : S1x1024x1024.Idx) :
    k0_pay1 (F := Ideal) x q o0 o1 (k0_pay11 q k2) (k0_pay12 q k2) (k0_pay13 v2) k3 v3 wo y
      = x (ix2 (y 1) (y 2)) + ∑ j : Fin 1024, (if h : j.val < 256 then o0 (ix2 (y 1) ⟨j.val, h⟩)
          else if h : j.val - 256 < 256 then o1 (ix2 (y 1) ⟨j.val - 256, h⟩)
          else if h : j.val - 256 - 256 < 256 then
            att (fun k => ∑ e : Fin 256, q (ix2 (y 1) ⟨512 + e.val, by omega⟩) * k2 (ix3 0 e k)) (fun k => v2 (ix3 0 k ⟨j.val - 256 - 256, h⟩))
          else att (fun k => ∑ e : Fin 256, q (ix2 (y 1) ⟨768 + e.val, by omega⟩) * k3 (ix3 0 e k)) (fun k => v3 (ix3 0 k ⟨j.val - 256 - 256 - 256, by omega⟩)))
          * wo (ix2 j (y 2)) := by
  pointwise [k0_pay1, k0_pay10, k0_pay11, k0_pay12, k0_pay13, att, wt, mx]

/-- Every window's block index, by the point's number. -/
theorem idx_val : ∀ t : Fin cfg0.N, win0_0.index t = ![t.val / 8, t.val % 8, 0]
    ∧ win0_1.index t = ![0, 0]
    ∧ win0_2.index t = ![0, 0]
    ∧ win0_3.index t = ![t.val / 8, 0, 0]
    ∧ win0_4.index t = ![t.val / 8, 0, 0]
    ∧ win0_5.index t = ![0, 0]
    ∧ win0_6.index t = ![t.val / 8, t.val % 8, 0] :=
  (by decide +kernel : ∀ t : Fin grid0.N, _)

section
open Cert.CrossRefIdeal
variable (x0 : FVec Ideal S2x8192x1024 .f32) (x1 : FVec Ideal S1024 .f32) (x2 : FVec Ideal S1024x1024 .f32) (x3 : FVec Ideal S2x1024x256 .bf16) (x4 : FVec Ideal S2x256x1024 .bf16)

/-- The reference's score, from the query row and the keys. -/
theorem score_ref (i : S2x4x8192x256.Idx) :
    val_main_v21 (F := Ideal) x0 x1 x2 x3 i
      = (∑ e : Fin 256, val_main_v15 (F := Ideal) x0 x1 x2 (ix3 (i 0) (i 2) ⟨(i 1).val * 256 + e.val, by have : (i 1).val < 4 := (i 1).isLt; show _ < 1024; omega⟩)
          * x3 (ix3 (i 0) ⟨(i 1).val * 256 + e.val, by have : (i 1).val < 4 := (i 1).isLt; show _ < 1024; omega⟩ (i 3))) * Ideal.ofBits .f32 0x3D800000#32 := by
  have i0 : (i 0).val < 2 := (i 0).isLt
  have i1 : (i 1).val < 4 := (i 1).isLt
  have i2 : (i 2).val < 8192 := (i 2).isLt
  have i3 : (i 3).val < 256 := (i 3).isLt
  rw [val_main_v21_apply, val_main_v20_apply, val_main_v19_apply]
  refine Ideal.mul_congr (Finset.sum_congr rfl fun e _ => Ideal.mul_congr ?_ ?_) rfl
  · rw [val_main_v17_apply, val_main_v16_apply]
    have he := e.isLt
    refine congrArg (val_main_v15 (F := Ideal) x0 x1 x2) (funext fun a => Fin.ext ?_)
    fin_cases a
    · show ((((i 0).val * 8192 + (i 2).val) * 4 + (i 1).val) * 256 + e.val) / 8388608 = (i 0).val; omega
    · show ((((i 0).val * 8192 + (i 2).val) * 4 + (i 1).val) * 256 + e.val) / 1024 % 8192 = (i 2).val; omega
    · show ((((i 0).val * 8192 + (i 2).val) * 4 + (i 1).val) * 256 + e.val) % 1024 = (i 1).val * 256 + e.val; omega
  · rw [val_main_v18_apply]
    have he := e.isLt
    refine congrArg x3 (funext fun a => Fin.ext ?_)
    fin_cases a
    · show ((((i 0).val * 4 + (i 1).val) * 256 + e.val) * 256 + (i 3).val) / 262144 = (i 0).val; omega
    · show ((((i 0).val * 4 + (i 1).val) * 256 + e.val) * 256 + (i 3).val) / 256 % 1024 = (i 1).val * 256 + e.val; omega
    · show ((((i 0).val * 4 + (i 1).val) * 256 + e.val) * 256 + (i 3).val) % 256 = (i 3).val; omega

/-- The reference's scores are real at finite arguments. -/
theorem score_real (h1 : ∀ i, IsReal (x1 i)) (h2 : ∀ i, IsReal (x2 i)) (h3 : ∀ i, IsReal (x3 i)) (i : S2x4x8192x256.Idx) :
    IsReal (val_main_v21 (F := Ideal) x0 x1 x2 x3 i) := by
  rw [score_ref]
  refine (IsReal.sum _ _ fun e => IsReal.mul ?_ (h3 _)).mul ⟨_, scale_real⟩
  rw [val_main_v15_apply]
  refine IsReal.sum _ _ fun j => IsReal.mul ?_ (h2 _)
  generalize lidx_main_v15 _ j = p
  have e : val_main_v13 (F := Ideal) x0 x1 p
      = x0 p * Ideal.rsqrt (Ideal.div (∑ k : Fin 1024, x0 (ix3 (p 0) (p 1) k) * x0 (ix3 (p 0) (p 1) k)) (Ideal.ofBits .f32 0x44800000#32) + Ideal.ofBits .f32 0x3727C5AC#32) * x1 (ix1 (p 2)) := by
    pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rw [e]
  have hp : p = ix3 (p 0) (p 1) (p 2) := by blk_ext
  refine IsReal.mul ?_ (h1 _)
  have h := norm_real (fun k => x0 (ix3 (p 0) (p 1) k)) width_real eps_pos (p 2)
  rw [show x0 p = x0 (ix3 (p 0) (p 1) (p 2)) from congrArg x0 hp]
  exact h

theorem ref_weights (i : S2x4x256x8192.Idx) :
    val_main_v33 (F := Ideal) x0 x1 x2 x3 x4 i
      = ∑ k : Fin 256, x4 (idx_main_v32 (lidx_main_v33 i k)) * Ideal.div (wt (fun k => val_main_v21 (F := Ideal) x0 x1 x2 x3 (ix4 (i 0) (i 1) (i 3) k)) k) (∑ k, wt (fun k => val_main_v21 (F := Ideal) x0 x1 x2 x3 (ix4 (i 0) (i 1) (i 3) k)) k) := by
  rw [val_main_v33_apply]
  refine Finset.sum_congr rfl fun k _ => Ideal.mul_congr (val_main_v32_apply (F := Ideal) x4 _) ?_
  have e : ridx_main_v33 i k = ix4 (i 0) (i 1) (i 3) k := by blk_ext
  rw [e]
  unfold val_main_v31 val_main_v30 val_main_v29 val_main_v28 val_main_v27 val_main_v26 val_main_v25 val_main_v24 val_main_v23 val_main_v22
  generalize val_main_v21 (F := Ideal) x0 x1 x2 x3 = S
  pointwise [wt, mx, val_main_cst_3, val_main_cst_4]

/-- The reference's heads side by side, at a column. -/
theorem ref_heads (h : ∀ i, IsReal (val_main_v21 (F := Ideal) x0 x1 x2 x3 i)) (p : S2x8192x1024.Idx) (b : Fin 2) (d : Fin 4) (s : Fin 8192) (j : Fin 1024)
    (hb : (p 0 : ℕ) = b) (hs : (p 1 : ℕ) = s) (hj : (p 2 : ℕ) = j) (hd : (d : ℕ) = j.val / 256) :
    val_main_v36 (F := Ideal) x0 x1 x2 x3 x4 p = att (fun k => val_main_v21 (F := Ideal) x0 x1 x2 x3 (ix4 b d s k)) (fun k => x4 (ix3 b k j)) := by
  have p0 : (p 0).val < 2 := (p 0).isLt
  have p1 : (p 1).val < 8192 := (p 1).isLt
  have p2 : (p 2).val < 1024 := (p 2).isLt
  have e : idx_main_v34 (idx_main_v35 p) = ix4 b d ⟨j.val % 256, Nat.mod_lt _ (by norm_num)⟩ s := funext fun a => Fin.ext (by
    fin_cases a
    · show (((p 0).val * 8192 + (p 1).val) * 1024 + (p 2).val) / 8388608 = b.val; omega
    · show (((p 0).val * 8192 + (p 1).val) * 1024 + (p 2).val) / 256 % 4 = d.val; omega
    · show (((p 0).val * 8192 + (p 1).val) * 1024 + (p 2).val) % 256 = j.val % 256; omega
    · show (((p 0).val * 8192 + (p 1).val) * 1024 + (p 2).val) / 1024 % 8192 = s.val; omega)
  rw [val_main_v36_apply, val_main_v35_apply, val_main_v34_apply, e]
  refine (ref_weights x0 x1 x2 x3 x4 _).trans (Eq.trans (Finset.sum_congr rfl fun k _ => Ideal.mul_congr (congrArg x4 (funext fun a => Fin.ext ?_)) rfl)
    (soft (fun k => val_main_v21 (F := Ideal) x0 x1 x2 x3 (ix4 b d s k)) (fun k => x4 (ix3 b k j)) (fun k => h _)).symm)
  have hk := k.isLt
  fin_cases a
  · show (((b.val * 256 + k.val) * 4 + d.val) * 256 + j.val % 256) / 262144 = b.val; omega
  · show (((b.val * 256 + k.val) * 4 + d.val) * 256 + j.val % 256) / 1024 % 256 = k.val; omega
  · show (((b.val * 256 + k.val) * 4 + d.val) * 256 + j.val % 256) % 1024 = j.val; omega

/-- The kernel's score, of a query row scaled before the product, is the reference's. -/
theorem score_eq (b : Fin 2) (d : Fin 4) (s : Fin 8192) (k : Fin 256) (q kk : Fin 256 → EReal) (o : ℕ) (ho : o = d.val * 256)
    (hq : ∀ (e : Fin 256) (p : S2x8192x1024.Idx), (p 0 : ℕ) = b → (p 1 : ℕ) = s → (p 2 : ℕ) = o + e.val → q e = val_main_v15 (F := Ideal) x0 x1 x2 p * Ideal.ofBits .f32 0x3D800000#32)
    (hk : ∀ (e : Fin 256) (p : S2x1024x256.Idx), (p 0 : ℕ) = b → (p 1 : ℕ) = o + e.val → (p 2 : ℕ) = k → kk e = x3 p) :
    ∑ e, q e * kk e = val_main_v21 (F := Ideal) x0 x1 x2 x3 (ix4 b d s k) := by
  rw [score_ref, sum_mul_real _ _ _ (by rw [scale_real]; exact EReal.coe_nonneg.2 (by norm_num)) (by rw [scale_real]; exact EReal.coe_ne_top _)]
  refine Finset.sum_congr rfl fun e _ => ?_
  subst ho
  rw [hq e (ix3 b s ⟨d.val * 256 + e.val, by omega⟩) rfl rfl rfl, hk e (ix3 b ⟨d.val * 256 + e.val, by omega⟩ k) rfl rfl rfl]
  exact mul_right_comm _ _ _
end

theorem q_at (c : Dev nD) (t : Fin cfg0.N) (y : S1024x1024.Idx) (p : Cert.CrossRefIdeal.S2x8192x1024.Idx) (h0 : (p 0 : ℕ) = t.val / 8) (h1 : (p 1 : ℕ) = t.val % 8 * 1024 + y 0) (h2 : (p 2 : ℕ) = y 1) :
    k0_pay3 (F := Ideal) (iblk m c 0 t) (iblk m c 1 t) (iblk m c 2 t) y
      = val_main_v15 (F := Ideal) (m ((c : Thread nD τ).loc main_arg0)) (m ((c : Thread nD τ).loc main_arg1)) (m ((c : Thread nD τ).loc main_arg2)) p * Ideal.ofBits .f32 0x3D800000#32 := by
  pointwise [k0_pay3, k0_pay2, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx_val t]

theorem key0_at (c : Dev nD) (t : Fin cfg0.N) (e k : Fin 256) (p : Cert.CrossRefIdeal.S2x1024x256.Idx) (h0 : (p 0 : ℕ) = t.val / 8) (h1 : (p 1 : ℕ) = 0 + e.val) (h2 : (p 2 : ℕ) = k) :
    (View.ld (iblk m c 3 t) r0_3 : FVec Ideal S1x256x256 .bf16) (ix3 0 e k) = (m ((c : Thread nD τ).loc main_arg3) : FVec Ideal S2x1024x256 .bf16) p := by
  blk_point [iblk, V, idx_val t]

theorem val0_at (c : Dev nD) (t : Fin cfg0.N) (k d : Fin 256) (p : Cert.CrossRefIdeal.S2x256x1024.Idx) (h0 : (p 0 : ℕ) = t.val / 8) (h1 : (p 1 : ℕ) = k) (h2 : (p 2 : ℕ) = 0 + d.val) :
    (View.ld (iblk m c 4 t) r0_4 : FVec Ideal S1x256x256 .bf16) (ix3 0 k d) = (m ((c : Thread nD τ).loc main_arg4) : FVec Ideal S2x256x1024 .bf16) p := by
  blk_point [iblk, V, idx_val t]

/-- Head 0: the reference's column. -/
theorem att0_at (c : Dev nD) (t : Fin cfg0.N) (h : ∀ i, IsReal (val_main_v21 (F := Ideal) (m ((c : Thread nD τ).loc main_arg0)) (m ((c : Thread nD τ).loc main_arg1)) (m ((c : Thread nD τ).loc main_arg2)) (m ((c : Thread nD τ).loc main_arg3)) i)) (r : Fin 1024) (d : Fin 256) (p : Cert.CrossRefIdeal.S2x8192x1024.Idx)
    (h0 : (p 0 : ℕ) = t.val / 8) (h1 : (p 1 : ℕ) = t.val % 8 * 1024 + r.val) (h2 : (p 2 : ℕ) = 0 + d.val) :
    att (fun k => ∑ e : Fin 256, k0_pay3 (F := Ideal) (iblk m c 0 t) (iblk m c 1 t) (iblk m c 2 t) (ix2 r ⟨e.val, by omega⟩) * (View.ld (iblk m c 3 t) r0_3 : FVec Ideal S1x256x256 .bf16) (ix3 0 e k)) (fun k => (View.ld (iblk m c 4 t) r0_4 : FVec Ideal S1x256x256 .bf16) (ix3 0 k d))
      = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) p := by
  rw [ref_heads _ _ _ _ _ h p (p 0) 0 (p 1) (p 2) rfl rfl rfl (show 0 = (p 2).val / 256 by omega)]
  refine congrArg₂ att (funext fun k => ?_) (funext fun k => ?_)
  · exact score_eq _ _ _ _ (p 0) 0 (p 1) k _ _ 0 rfl
      (fun e q q0 q1 q2 => q_at m c t _ q (q0.trans h0) (q1.trans h1) (q2.trans (Nat.zero_add _)))
      (fun e q q0 q1 q2 => key0_at m c t e k q (q0.trans h0) q1 q2)
  · exact val0_at m c t k d _ h0 rfl h2

theorem key1_at (c : Dev nD) (t : Fin cfg0.N) (e k : Fin 256) (p : Cert.CrossRefIdeal.S2x1024x256.Idx) (h0 : (p 0 : ℕ) = t.val / 8) (h1 : (p 1 : ℕ) = 256 + e.val) (h2 : (p 2 : ℕ) = k) :
    (View.ld (iblk m c 3 t) r0_5 : FVec Ideal S1x256x256 .bf16) (ix3 0 e k) = (m ((c : Thread nD τ).loc main_arg3) : FVec Ideal S2x1024x256 .bf16) p := by
  blk_point [iblk, V, idx_val t]

theorem val1_at (c : Dev nD) (t : Fin cfg0.N) (k d : Fin 256) (p : Cert.CrossRefIdeal.S2x256x1024.Idx) (h0 : (p 0 : ℕ) = t.val / 8) (h1 : (p 1 : ℕ) = k) (h2 : (p 2 : ℕ) = 256 + d.val) :
    (View.ld (iblk m c 4 t) r0_6 : FVec Ideal S1x256x256 .bf16) (ix3 0 k d) = (m ((c : Thread nD τ).loc main_arg4) : FVec Ideal S2x256x1024 .bf16) p := by
  blk_point [iblk, V, idx_val t]

/-- Head 1: the reference's column. -/
theorem att1_at (c : Dev nD) (t : Fin cfg0.N) (h : ∀ i, IsReal (val_main_v21 (F := Ideal) (m ((c : Thread nD τ).loc main_arg0)) (m ((c : Thread nD τ).loc main_arg1)) (m ((c : Thread nD τ).loc main_arg2)) (m ((c : Thread nD τ).loc main_arg3)) i)) (r : Fin 1024) (d : Fin 256) (p : Cert.CrossRefIdeal.S2x8192x1024.Idx)
    (h0 : (p 0 : ℕ) = t.val / 8) (h1 : (p 1 : ℕ) = t.val % 8 * 1024 + r.val) (h2 : (p 2 : ℕ) = 256 + d.val) :
    att (fun k => ∑ e : Fin 256, k0_pay3 (F := Ideal) (iblk m c 0 t) (iblk m c 1 t) (iblk m c 2 t) (ix2 r ⟨256 + e.val, by omega⟩) * (View.ld (iblk m c 3 t) r0_5 : FVec Ideal S1x256x256 .bf16) (ix3 0 e k)) (fun k => (View.ld (iblk m c 4 t) r0_6 : FVec Ideal S1x256x256 .bf16) (ix3 0 k d))
      = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) p := by
  rw [ref_heads _ _ _ _ _ h p (p 0) 1 (p 1) (p 2) rfl rfl rfl (show 1 = (p 2).val / 256 by omega)]
  refine congrArg₂ att (funext fun k => ?_) (funext fun k => ?_)
  · exact score_eq _ _ _ _ (p 0) 1 (p 1) k _ _ 256 rfl
      (fun e q q0 q1 q2 => q_at m c t _ q (q0.trans h0) (q1.trans h1) q2)
      (fun e q q0 q1 q2 => key1_at m c t e k q (q0.trans h0) q1 q2)
  · exact val1_at m c t k d _ h0 rfl h2

theorem key2_at (c : Dev nD) (t : Fin cfg0.N) (e k : Fin 256) (p : Cert.CrossRefIdeal.S2x1024x256.Idx) (h0 : (p 0 : ℕ) = t.val / 8) (h1 : (p 1 : ℕ) = 512 + e.val) (h2 : (p 2 : ℕ) = k) :
    (View.ld (iblk m c 3 t) r0_7 : FVec Ideal S1x256x256 .bf16) (ix3 0 e k) = (m ((c : Thread nD τ).loc main_arg3) : FVec Ideal S2x1024x256 .bf16) p := by
  blk_point [iblk, V, idx_val t]

theorem val2_at (c : Dev nD) (t : Fin cfg0.N) (k d : Fin 256) (p : Cert.CrossRefIdeal.S2x256x1024.Idx) (h0 : (p 0 : ℕ) = t.val / 8) (h1 : (p 1 : ℕ) = k) (h2 : (p 2 : ℕ) = 512 + d.val) :
    (View.ld (iblk m c 4 t) r0_8 : FVec Ideal S1x256x256 .bf16) (ix3 0 k d) = (m ((c : Thread nD τ).loc main_arg4) : FVec Ideal S2x256x1024 .bf16) p := by
  blk_point [iblk, V, idx_val t]

/-- Head 2: the reference's column. -/
theorem att2_at (c : Dev nD) (t : Fin cfg0.N) (h : ∀ i, IsReal (val_main_v21 (F := Ideal) (m ((c : Thread nD τ).loc main_arg0)) (m ((c : Thread nD τ).loc main_arg1)) (m ((c : Thread nD τ).loc main_arg2)) (m ((c : Thread nD τ).loc main_arg3)) i)) (r : Fin 1024) (d : Fin 256) (p : Cert.CrossRefIdeal.S2x8192x1024.Idx)
    (h0 : (p 0 : ℕ) = t.val / 8) (h1 : (p 1 : ℕ) = t.val % 8 * 1024 + r.val) (h2 : (p 2 : ℕ) = 512 + d.val) :
    att (fun k => ∑ e : Fin 256, k0_pay3 (F := Ideal) (iblk m c 0 t) (iblk m c 1 t) (iblk m c 2 t) (ix2 r ⟨512 + e.val, by omega⟩) * (View.ld (iblk m c 3 t) r0_7 : FVec Ideal S1x256x256 .bf16) (ix3 0 e k)) (fun k => (View.ld (iblk m c 4 t) r0_8 : FVec Ideal S1x256x256 .bf16) (ix3 0 k d))
      = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) p := by
  rw [ref_heads _ _ _ _ _ h p (p 0) 2 (p 1) (p 2) rfl rfl rfl (show 2 = (p 2).val / 256 by omega)]
  refine congrArg₂ att (funext fun k => ?_) (funext fun k => ?_)
  · exact score_eq _ _ _ _ (p 0) 2 (p 1) k _ _ 512 rfl
      (fun e q q0 q1 q2 => q_at m c t _ q (q0.trans h0) (q1.trans h1) q2)
      (fun e q q0 q1 q2 => key2_at m c t e k q (q0.trans h0) q1 q2)
  · exact val2_at m c t k d _ h0 rfl h2

theorem key3_at (c : Dev nD) (t : Fin cfg0.N) (e k : Fin 256) (p : Cert.CrossRefIdeal.S2x1024x256.Idx) (h0 : (p 0 : ℕ) = t.val / 8) (h1 : (p 1 : ℕ) = 768 + e.val) (h2 : (p 2 : ℕ) = k) :
    (View.ld (iblk m c 3 t) r0_9 : FVec Ideal S1x256x256 .bf16) (ix3 0 e k) = (m ((c : Thread nD τ).loc main_arg3) : FVec Ideal S2x1024x256 .bf16) p := by
  blk_point [iblk, V, idx_val t]

theorem val3_at (c : Dev nD) (t : Fin cfg0.N) (k d : Fin 256) (p : Cert.CrossRefIdeal.S2x256x1024.Idx) (h0 : (p 0 : ℕ) = t.val / 8) (h1 : (p 1 : ℕ) = k) (h2 : (p 2 : ℕ) = 768 + d.val) :
    (View.ld (iblk m c 4 t) r0_10 : FVec Ideal S1x256x256 .bf16) (ix3 0 k d) = (m ((c : Thread nD τ).loc main_arg4) : FVec Ideal S2x256x1024 .bf16) p := by
  blk_point [iblk, V, idx_val t]

/-- Head 3: the reference's column. -/
theorem att3_at (c : Dev nD) (t : Fin cfg0.N) (h : ∀ i, IsReal (val_main_v21 (F := Ideal) (m ((c : Thread nD τ).loc main_arg0)) (m ((c : Thread nD τ).loc main_arg1)) (m ((c : Thread nD τ).loc main_arg2)) (m ((c : Thread nD τ).loc main_arg3)) i)) (r : Fin 1024) (d : Fin 256) (p : Cert.CrossRefIdeal.S2x8192x1024.Idx)
    (h0 : (p 0 : ℕ) = t.val / 8) (h1 : (p 1 : ℕ) = t.val % 8 * 1024 + r.val) (h2 : (p 2 : ℕ) = 768 + d.val) :
    att (fun k => ∑ e : Fin 256, k0_pay3 (F := Ideal) (iblk m c 0 t) (iblk m c 1 t) (iblk m c 2 t) (ix2 r ⟨768 + e.val, by omega⟩) * (View.ld (iblk m c 3 t) r0_9 : FVec Ideal S1x256x256 .bf16) (ix3 0 e k)) (fun k => (View.ld (iblk m c 4 t) r0_10 : FVec Ideal S1x256x256 .bf16) (ix3 0 k d))
      = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) p := by
  rw [ref_heads _ _ _ _ _ h p (p 0) 3 (p 1) (p 2) rfl rfl rfl (show 3 = (p 2).val / 256 by omega)]
  refine congrArg₂ att (funext fun k => ?_) (funext fun k => ?_)
  · exact score_eq _ _ _ _ (p 0) 3 (p 1) k _ _ 768 rfl
      (fun e q q0 q1 q2 => q_at m c t _ q (q0.trans h0) (q1.trans h1) q2)
      (fun e q q0 q1 q2 => key3_at m c t e k q (q0.trans h0) q1 q2)
  · exact val3_at m c t k d _ h0 rfl h2

theorem wo_at (c : Dev nD) (t : Fin cfg0.N) (y : S1024x1024.Idx) :
    (iblk m c 5 t : FVec Ideal S1024x1024 .bf16) y = val_main_v37 (F := Ideal) (m ((c : Thread nD τ).loc main_arg5)) y := by
  pointwise [val_main_v37]
  blk_point [iblk, V, idx_val t]

theorem x_at (c : Dev nD) (t : Fin cfg0.N) (y : S1024x1024.Idx) (p : Cert.CrossRefIdeal.S2x8192x1024.Idx) (h0 : (p 0 : ℕ) = t.val / 8) (h1 : (p 1 : ℕ) = t.val % 8 * 1024 + y 0) (h2 : (p 2 : ℕ) = y 1) :
    k0_pay2 (F := Ideal) (iblk m c 0 t) y = (m ((c : Thread nD τ).loc main_arg0) : FVec Ideal S2x8192x1024 .f32) p := by
  pointwise [k0_pay2]
  blk_point [iblk, V, idx_val t]

/-- POINT: what the body stores at block index `y` of point `t` is the reference at the array index `y` sits at. -/
theorem point (c : Dev nD) (t : Fin cfg0.N) (h : ∀ i, IsReal (val_main_v21 (F := Ideal) (m ((c : Thread nD τ).loc main_arg0)) (m ((c : Thread nD τ).loc main_arg1)) (m ((c : Thread nD τ).loc main_arg2)) (m ((c : Thread nD τ).loc main_arg3)) i)) (y : S1x1024x1024.Idx) (p : Cert.CrossRefIdeal.S2x8192x1024.Idx)
    (h0 : (p 0 : ℕ) = t.val / 8) (h1 : (p 1 : ℕ) = t.val % 8 * 1024 + y 1) (h2 : (p 2 : ℕ) = y 2) :
    k0_pay1 (F := Ideal) (k0_pay2 (iblk m c 0 t)) (k0_pay3 (iblk m c 0 t) (iblk m c 1 t) (iblk m c 2 t))
      (k0_pay8 (k0_pay5 (iblk m c 0 t) (iblk m c 1 t) (iblk m c 2 t) (View.ld (iblk m c 3 t) r0_3))
        (k0_pay6 (iblk m c 0 t) (iblk m c 1 t) (iblk m c 2 t) (View.ld (iblk m c 3 t) r0_3))
        (k0_pay7 (View.ld (iblk m c 4 t) r0_4)))
      (k0_pay9 (k0_pay3 (iblk m c 0 t) (iblk m c 1 t) (iblk m c 2 t)) (View.ld (iblk m c 3 t) r0_5)
        (View.ld (iblk m c 4 t) r0_6))
      (k0_pay11 (k0_pay3 (iblk m c 0 t) (iblk m c 1 t) (iblk m c 2 t)) (View.ld (iblk m c 3 t) r0_7))
      (k0_pay12 (k0_pay3 (iblk m c 0 t) (iblk m c 1 t) (iblk m c 2 t)) (View.ld (iblk m c 3 t) r0_7))
      (k0_pay13 (View.ld (iblk m c 4 t) r0_8)) (View.ld (iblk m c 3 t) r0_9) (View.ld (iblk m c 4 t) r0_10)
      (iblk m c 5 t) y = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p := by
  rw [out_pay, val_main_v39_apply, val_main_v38_apply]
  refine Ideal.add_congr (x_at m c t _ p h0 h1 h2) (Finset.sum_congr rfl fun j _ => Ideal.mul_congr ?_ ?_)
  · have hj := j.isLt
    split
    · rename_i hh
      exact (head0 _ _ _ _ _ _).trans (att0_at m c t h (y 1) ⟨j.val, hh⟩ _ h0 h1 (show j.val = 0 + j.val by omega))
    split
    · rename_i hh hh'
      exact (head1 _ _ _ _).trans (att1_at m c t h (y 1) ⟨j.val - 256, hh'⟩ _ h0 h1 (show j.val = 256 + (j.val - 256) by omega))
    split
    · rename_i hh hh' hh''
      exact att2_at m c t h (y 1) ⟨j.val - 256 - 256, hh''⟩ _ h0 h1 (show j.val = 512 + (j.val - 256 - 256) by omega)
    · exact att3_at m c t h (y 1) ⟨j.val - 256 - 256 - 256, by omega⟩ _ h0 h1 (show j.val = 768 + (j.val - 256 - 256 - 256) by omega)
  · refine (wo_at m c t _).trans (congrArg _ (funext fun a => Fin.ext ?_))
    fin_cases a
    · rfl
    · exact h2.symm

theorem bits : ∀ c d : BitVec 1, IntOp.andi c d = 1#1 → c = 1#1 ∧ d = 1#1 := by decide

instance : Subsingleton Cert.Pre_finite_inputs.S_.Idx := ⟨fun _ _ => funext fun a => a.elim0⟩

instance pre_facts : Cert.Pre_finite_inputs.Facts where
  bcast_S_S1024 := by decide
  reducesTo_S1024_S_d0 := by decide
  h_S_ := by decide
  bcast_S_S1024x1024 := by decide
  reducesTo_S1024x1024_S_d0_1 := by decide
  bitsLt_bf16_f32 := by decide
  bcast_S_S2x1024x256 := by decide
  reducesTo_S2x1024x256_S_d0_1_2 := by decide

/-- What the precondition says: the gain, the query projection and the keys are real. -/
theorem pre_real (x0 : FVec Ideal S2x8192x1024 .f32) (x1 : FVec Ideal S1024 .f32) (x2 : FVec Ideal S1024x1024 .f32) (x3 : FVec Ideal S2x1024x256 .bf16) (x4 : FVec Ideal S2x256x1024 .bf16) (x5 : FVec Ideal S1024x1024 .f32)
    (h : Cert.Pre_finite_inputs.fn (F := Ideal) x0 x1 x2 x3 x4 x5 = fun _ => 1#1) :
    (∀ i, IsReal (x1 i)) ∧ (∀ i, IsReal (x2 i)) ∧ (∀ i, IsReal (x3 i)) := by
  have h' := congrFun h (Shape.Idx.first Cert.Pre_finite_inputs.Facts.h_S_)
  unfold Cert.Pre_finite_inputs.fn at h'
  obtain ⟨h', h3⟩ := bits _ _ h'
  obtain ⟨h1, h2⟩ := bits _ _ h'
  exact ⟨fun i => real_of_abs_lt (Host.reduce_andi_all _ _ _ _ _ h1 i), fun i => real_of_abs_lt (Host.reduce_andi_all _ _ _ _ _ h2 i),
    fun i => real_of_abs_lt (Host.reduce_andi_all _ _ _ _ _ h3 i)⟩

/-- BRIDGE: the result array after the run. -/
theorem final (c : Dev nD) (h : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) : (dats m 0 c).arrAt 6 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  unfold_out out0_6
  frame_out
  obtain ⟨h1, h2, h3⟩ := pre_real _ _ _ _ _ _ h
  refine point m c t (score_real _ _ _ _ h1 h2 h3) y _ ?_ ?_ ?_
  · blk_simp [idx_val t]
  · blk_simp [idx_val t]
  · blk_simp [idx_val t]

end Cert.CrossIdeal.Eq

end
-- ==== Proof.FfnIdeal.Body.lean ====
/-
  The feed-forward body at one grid point of `Cert.FfnIdeal`: what it leaves in the result's block and in the rows carried to
  the next block, and the run whose invariant is that the carried rows are those of the block before.
-/
module

public import proofs.«01_k».proof.Proof.Gen.FfnIdeal.Frame
public import proofs.«01_k».proof.Proof.Gen.FfnIdeal.Skeleton
public import Idealize.ShloMosaic.Lib.Pipeline.FrameBody
public import Idealize.ShloMosaic.Lib.Claim

@[expose] public section

set_option maxRecDepth 16384
set_option maxHeartbeats 4000000

noncomputable section

namespace Cert.FfnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.FfnIdeal.Gen

variable {F : FTy → Type} [FloatOps F]

local notation "𝕄" => MT nD τ sig Unit (Elt F) ℕ (UR sig nD τ) ℕ

/-- Whether block `i` is the first of its sequence, as the kernel asks it. -/
def firstBit (i : grid0.Coords) : BitVec 1 :=
  let r := Scalar.remsi (BitVec.ofNat 32 (i 0).val) 16#32
  Scalar.cmpi .eq (Scalar.select (Scalar.andi (Scalar.xori (Scalar.cmpi .slt r 0#32) 0#1) (Scalar.cmpi .ne r 0#32)) (Scalar.addi r 16#32) r) 0#32

section
variable (i : grid0.Coords) (x0 : Vec F S512x1024 .f32) (x1 : Vec F S1x1024 .f32) (x2 : Vec F S1024x5632 .bf16) (x3 : Vec F S3x2816 .f32)
  (x4 : Vec F S1x2816 .f32) (x5 : Vec F S2816x1024 .bf16) (x6 : Vec F S1x1024 .f32) (x9 : Vec F S8x2816 .f32)
/-- The normed block. -/
def hN : Vec F S512x1024 .bf16 := k0_pay2 (View.ld x0 (Rect.unit (s := S512x1024) ![0, 0] S512x1024.size inb_S512x1024_S512x1024_0_0)) (View.ld x1 (Rect.unit (s := S1x1024) ![0, 0] S1x1024.size inb_S1x1024_S1x1024_0_0))
/-- The value and gate columns of each chunk, and the eight rows stored above the value columns. -/
def a0 : Vec F S512x1024 .f32 := k0_pay3 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x5632) ![0, 0] S1024x1024.size inb_S1024x5632_S1024x1024_0_0))
def b0 : Vec F S512x1024 .f32 := k0_pay4 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x5632) ![0, 2816] S1024x1024.size inb_S1024x5632_S1024x1024_0_2816))
def p0 : Vec F S8x1024 .f32 := k0_pay6 (k0_pay5 i (View.ld x9 (Rect.unit (s := S8x2816) ![0, 0] S8x1024.size inb_S8x2816_S8x1024_0_0)))
def a1 : Vec F S512x1024 .f32 := k0_pay14 (hN x0 x1) (View.ld x2 (Rect.unit (s := S1024x5632) ![0, 1024] S1024x1024.size inb_S1024x5632_S1024x1024_0_1024))
def b1 : Vec F S512x1024 .f32 := k0_pay12 (hN x0 x1) (View.ld x2 (Rect.unit (s := S1024x5632) ![0, 3840] S1024x1024.size inb_S1024x5632_S1024x1024_0_3840))
def p1 : Vec F S8x1024 .f32 := k0_pay13 (firstBit i) (View.ld x9 (Rect.unit (s := S8x2816) ![0, 1024] S8x1024.size inb_S8x2816_S8x1024_0_1024))
def a2 : Vec F S512x768 .f32 := k0_pay19 (hN x0 x1) (View.ld x2 (Rect.unit (s := S1024x5632) ![0, 2048] S1024x768.size inb_S1024x5632_S1024x768_0_2048))
def b2 : Vec F S512x768 .f32 := k0_pay20 (hN x0 x1) (View.ld x2 (Rect.unit (s := S1024x5632) ![0, 4864] S1024x768.size inb_S1024x5632_S1024x768_0_4864))
def p2 : Vec F S8x768 .f32 := k0_pay21 (firstBit i) (View.ld x9 (Rect.unit (s := S8x2816) ![0, 2048] S8x768.size inb_S8x2816_S8x768_0_2048))
/-- The stores into the shift buffer before each chunk's loads, and the rows one and two above. -/
def st0 : List (View.Piece (Elt F) S520x2816 .f32) :=
  ⟨Rect.unit (s := S520x2816) ![8, 0] S512x1024.size inb_S520x2816_S512x1024_8_0, k0_pay7 (a0 x0 x1 x2)⟩ :: ⟨Rect.unit (s := S520x2816) ![0, 0] S8x1024.size inb_S520x2816_S8x1024_0_0, p0 i x9⟩ :: []
def u0 : Vec F S512x1024 .f32 := fun j => View.canon (st0 i x0 x1 x2 x9) ((Rect.unit (s := S520x2816) ![7, 0] S512x1024.size inb_S520x2816_S512x1024_7_0).toLoadRect.idx j)
def v0 : Vec F S512x1024 .f32 := fun j => View.canon (st0 i x0 x1 x2 x9) ((Rect.unit (s := S520x2816) ![6, 0] S512x1024.size inb_S520x2816_S512x1024_6_0).toLoadRect.idx j)
def st1 : List (View.Piece (Elt F) S520x2816 .f32) :=
  ⟨Rect.unit (s := S520x2816) ![8, 1024] S512x1024.size inb_S520x2816_S512x1024_8_1024, a1 x0 x1 x2⟩ :: ⟨Rect.unit (s := S520x2816) ![0, 1024] S8x1024.size inb_S520x2816_S8x1024_0_1024, p1 i x9⟩ :: st0 i x0 x1 x2 x9
def u1 : Vec F S512x1024 .f32 := fun j => View.canon (st1 i x0 x1 x2 x9) ((Rect.unit (s := S520x2816) ![7, 1024] S512x1024.size inb_S520x2816_S512x1024_7_1024).toLoadRect.idx j)
def v1 : Vec F S512x1024 .f32 := fun j => View.canon (st1 i x0 x1 x2 x9) ((Rect.unit (s := S520x2816) ![6, 1024] S512x1024.size inb_S520x2816_S512x1024_6_1024).toLoadRect.idx j)
def st2 : List (View.Piece (Elt F) S520x2816 .f32) :=
  ⟨Rect.unit (s := S520x2816) ![8, 2048] S512x768.size inb_S520x2816_S512x768_8_2048, k0_pay22 (hN x0 x1) (View.ld x2 (Rect.unit (s := S1024x5632) ![0, 2048] S1024x768.size inb_S1024x5632_S1024x768_0_2048))⟩ :: ⟨Rect.unit (s := S520x2816) ![0, 2048] S8x768.size inb_S520x2816_S8x768_0_2048, p2 i x9⟩ :: st1 i x0 x1 x2 x9
def u2 : Vec F S512x768 .f32 := fun j => View.canon (st2 i x0 x1 x2 x9) ((Rect.unit (s := S520x2816) ![7, 2048] S512x768.size inb_S520x2816_S512x768_7_2048).toLoadRect.idx j)
def v2 : Vec F S512x768 .f32 := fun j => View.canon (st2 i x0 x1 x2 x9) ((Rect.unit (s := S520x2816) ![6, 2048] S512x768.size inb_S520x2816_S512x768_6_2048).toLoadRect.idx j)
/-- The sum of the first chunk's and the first two chunks' products, and the block before its norm. -/
def acc0 : Vec F S512x1024 .f32 :=
  k0_pay10 (k0_pay9 (a0 x0 x1 x2) (b0 x0 x1 x2) (View.ld x3 (Rect.unit (s := S3x2816) ![0, 0] S3x1024.size inb_S3x2816_S3x1024_0_0)) (u0 i x0 x1 x2 x9) (v0 i x0 x1 x2 x9) (View.ld x4 (Rect.unit (s := S1x2816) ![0, 0] S1x1024.size inb_S1x2816_S1x1024_0_0))) (View.ld x5 (Rect.unit (s := S2816x1024) ![0, 0] S1024x1024.size inb_S2816x1024_S1024x1024_0_0))
def acc1 : Vec F S512x1024 .f32 :=
  k0_pay18 (acc0 i x0 x1 x2 x3 x4 x5 x9) (b1 x0 x1 x2) (k0_pay16 (hN x0 x1) (View.ld x2 (Rect.unit (s := S1024x5632) ![0, 1024] S1024x1024.size inb_S1024x5632_S1024x1024_0_1024)) (View.ld x3 (Rect.unit (s := S3x2816) ![0, 1024] S3x1024.size inb_S3x2816_S3x1024_0_1024)) (u1 i x0 x1 x2 x9))
    (k0_pay17 (View.ld x3 (Rect.unit (s := S3x2816) ![0, 1024] S3x1024.size inb_S3x2816_S3x1024_0_1024)) (v1 i x0 x1 x2 x9)) (View.ld x4 (Rect.unit (s := S1x2816) ![0, 1024] S1x1024.size inb_S1x2816_S1x1024_0_1024)) (View.ld x5 (Rect.unit (s := S2816x1024) ![1024, 0] S1024x1024.size inb_S2816x1024_S1024x1024_1024_0))
def res : Vec F S512x1024 .f32 :=
  k0_pay25 (View.ld x0 (Rect.unit (s := S512x1024) ![0, 0] S512x1024.size inb_S512x1024_S512x1024_0_0)) (acc1 i x0 x1 x2 x3 x4 x5 x9) (a2 x0 x1 x2) (b2 x0 x1 x2) (View.ld x3 (Rect.unit (s := S3x2816) ![0, 2048] S3x768.size inb_S3x2816_S3x768_0_2048)) (u2 i x0 x1 x2 x9) (v2 i x0 x1 x2 x9) (View.ld x4 (Rect.unit (s := S1x2816) ![0, 2048] S1x768.size inb_S1x2816_S1x768_0_2048)) (View.ld x5 (Rect.unit (s := S2816x1024) ![2048, 0] S768x1024.size inb_S2816x1024_S768x1024_2048_0))
def ssq : Vec F S512x1 .f32 :=
  k0_pay27 (View.ld x0 (Rect.unit (s := S512x1024) ![0, 0] S512x1024.size inb_S512x1024_S512x1024_0_0)) (acc1 i x0 x1 x2 x3 x4 x5 x9) (a2 x0 x1 x2) (b2 x0 x1 x2) (View.ld x3 (Rect.unit (s := S3x2816) ![0, 2048] S3x768.size inb_S3x2816_S3x768_0_2048)) (u2 i x0 x1 x2 x9) (v2 i x0 x1 x2 x9) (View.ld x4 (Rect.unit (s := S1x2816) ![0, 2048] S1x768.size inb_S1x2816_S1x768_0_2048)) (View.ld x5 (Rect.unit (s := S2816x1024) ![2048, 0] S768x1024.size inb_S2816x1024_S768x1024_2048_0))
/-- What the body leaves in the result's block, -/
def OUT : Vec F S512x1024 .f32 :=
  View.canon [⟨Rect.unit (s := S512x1024) ![0, 0] S512x1024.size inb_S512x1024_S512x1024_0_0, k0_pay1 (res i x0 x1 x2 x3 x4 x5 x9) (k0_pay26 (View.ld x6 (Rect.unit (s := S1x1024) ![0, 0] S1x1024.size inb_S1x1024_S1x1024_0_0))) (ssq i x0 x1 x2 x3 x4 x5 x9) (FloatOps.ofBits .f32 1149239296#32)⟩]
/-- and in the carried rows. -/
def CAR : Vec F S8x2816 .f32 :=
  View.canon [⟨Rect.unit (s := S8x2816) ![0, 2048] S8x768.size inb_S8x2816_S8x768_0_2048, k0_pay24 (k0_pay23 (hN x0 x1) (View.ld x2 (Rect.unit (s := S1024x5632) ![0, 2048] S1024x768.size inb_S1024x5632_S1024x768_0_2048)))⟩,
    ⟨Rect.unit (s := S8x2816) ![0, 1024] S8x1024.size inb_S8x2816_S8x1024_0_1024, k0_pay15 (hN x0 x1) (View.ld x2 (Rect.unit (s := S1024x5632) ![0, 1024] S1024x1024.size inb_S1024x5632_S1024x1024_0_1024))⟩,
    ⟨Rect.unit (s := S8x2816) ![0, 0] S8x1024.size inb_S8x2816_S8x1024_0_0, k0_pay8 (a0 x0 x1 x2)⟩]
end

theorem cover_out (q : Vec F S512x1024 .f32) (y : S512x1024.Idx) :
    ∃ pc ∈ ([⟨Rect.unit (s := S512x1024) ![0, 0] S512x1024.size inb_S512x1024_S512x1024_0_0, q⟩] : List (View.Piece (Elt F) S512x1024 .f32)), y ∈ pc.1.set :=
  View.cover_of_tiled [⟨Rect.unit (s := S512x1024) ![0, 0] S512x1024.size inb_S512x1024_S512x1024_0_0, q⟩] S512x1024.size (by rfl) y

theorem cover_car (q2 : Vec F S8x768 .f32) (q1 q0 : Vec F S8x1024 .f32) (y : S8x2816.Idx) :
    ∃ pc ∈ ([⟨Rect.unit (s := S8x2816) ![0, 2048] S8x768.size inb_S8x2816_S8x768_0_2048, q2⟩, ⟨Rect.unit (s := S8x2816) ![0, 1024] S8x1024.size inb_S8x2816_S8x1024_0_1024, q1⟩, ⟨Rect.unit (s := S8x2816) ![0, 0] S8x1024.size inb_S8x2816_S8x1024_0_0, q0⟩] : List (View.Piece (Elt F) S8x2816 .f32)), y ∈ pc.1.set := by
  have h0 : (y 0).val < 8 := (y 0).isLt
  have h1 : (y 1).val < 2816 := (y 1).isLt
  by_cases ha : (y 1).val < 1024
  · refine ⟨⟨Rect.unit (s := S8x2816) ![0, 0] S8x1024.size inb_S8x2816_S8x1024_0_0, q0⟩, List.mem_cons_of_mem _ (List.mem_cons_of_mem _ List.mem_cons_self), (Rect.mem_set_unit (s := S8x2816) (off := ![0, 0]) (size := S8x1024.size) (inb := inb_S8x2816_S8x1024_0_0)).mpr fun a => ?_⟩
    fin_cases a
    · exact ⟨Nat.zero_le _, h0⟩
    · exact ⟨Nat.zero_le _, ha⟩
  · by_cases hb : (y 1).val < 2048
    · refine ⟨⟨Rect.unit (s := S8x2816) ![0, 1024] S8x1024.size inb_S8x2816_S8x1024_0_1024, q1⟩, List.mem_cons_of_mem _ List.mem_cons_self, (Rect.mem_set_unit (s := S8x2816) (off := ![0, 1024]) (size := S8x1024.size) (inb := inb_S8x2816_S8x1024_0_1024)).mpr fun a => ?_⟩
      fin_cases a
      · exact ⟨Nat.zero_le _, h0⟩
      · exact ⟨Nat.le_of_not_lt ha, hb⟩
    · refine ⟨⟨Rect.unit (s := S8x2816) ![0, 2048] S8x768.size inb_S8x2816_S8x768_0_2048, q2⟩, List.mem_cons_self, (Rect.mem_set_unit (s := S8x2816) (off := ![0, 2048]) (size := S8x768.size) (inb := inb_S8x2816_S8x768_0_2048)).mpr fun a => ?_⟩
      fin_cases a
      · exact ⟨Nat.zero_le _, h0⟩
      · exact ⟨Nat.le_of_not_lt hb, h1⟩

set_option maxHeartbeats 4000000 in
/-- The body on whole buffers: it leaves the result's block at `OUT`, the carried rows at `CAR`, the inputs as they were. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S3x2816 .f32) (harg4 : arg4.IsWhole) (arg5 : Memref sig .tc .vmem S1x2816 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S520x2816 .f32) (harg9 : arg9.IsWhole) (arg10 : Memref sig .tc .vmem S8x2816 .f32) (harg10 : arg10.IsWhole)
    (x0 : Vec F S512x1024 .f32) (x1 : Vec F S1x1024 .f32) (x2 : Vec F S1024x5632 .bf16) (x3 : Vec F S3x2816 .f32) (x4 : Vec F S1x2816 .f32) (x5 : Vec F S2816x1024 .bf16) (x6 : Vec F S1x1024 .f32) (x9 : Vec F S8x2816 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (OUT i x0 x1 x2 x3 x4 x5 x6 x9) ∗ (∃ d, owns (c : Thread nD τ) arg9 fullShare d) ∗ owns (c : Thread nD τ) arg10 fullShare (CAR x0 x1 x2)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  subst hf0 hf1 hf2 hf3 hf4 hf5 hf6 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_out _)).trans ?_
    unfold OUT
    refine congrArg (fun q => View.canon [⟨_, q⟩]) ?_
    have hv51 : sound_kernel.sl.v51 c i arg1 arg2 arg3 arg9 arg10 f0 f1 f2 f9 = u0 i (arg1.view.read (Elt F) f0) (arg2.view.read (Elt F) f1) (arg3.view.read (Elt F) f2) (arg10.view.read (Elt F) f9) := View.readCov_eq_canon' _ _ _
    have hv56 : sound_kernel.sl.v56 c i arg1 arg2 arg3 arg9 arg10 f0 f1 f2 f9 = v0 i (arg1.view.read (Elt F) f0) (arg2.view.read (Elt F) f1) (arg3.view.read (Elt F) f2) (arg10.view.read (Elt F) f9) := View.readCov_eq_canon' _ _ _
    have hv101 : sound_kernel.sl.v101 c i arg1 arg2 arg3 arg9 arg10 f0 f1 f2 f9 = u1 i (arg1.view.read (Elt F) f0) (arg2.view.read (Elt F) f1) (arg3.view.read (Elt F) f2) (arg10.view.read (Elt F) f9) := View.readCov_eq_canon' _ _ _
    have hv106 : sound_kernel.sl.v106 c i arg1 arg2 arg3 arg9 arg10 f0 f1 f2 f9 = v1 i (arg1.view.read (Elt F) f0) (arg2.view.read (Elt F) f1) (arg3.view.read (Elt F) f2) (arg10.view.read (Elt F) f9) := View.readCov_eq_canon' _ _ _
    have hv152 : sound_kernel.sl.v152 c i arg1 arg2 arg3 arg9 arg10 f0 f1 f2 f9 = u2 i (arg1.view.read (Elt F) f0) (arg2.view.read (Elt F) f1) (arg3.view.read (Elt F) f2) (arg10.view.read (Elt F) f9) := View.readCov_eq_canon' _ _ _
    have hv157 : sound_kernel.sl.v157 c i arg1 arg2 arg3 arg9 arg10 f0 f1 f2 f9 = v2 i (arg1.view.read (Elt F) f0) (arg2.view.read (Elt F) f1) (arg3.view.read (Elt F) f2) (arg10.view.read (Elt F) f9) := View.readCov_eq_canon' _ _ _
    delta sound_kernel.sl.r_14 sound_kernel.sl.r_16 sound_kernel.sl.r_10 sound_kernel.sl.r_6 sound_kernel.sl.r_5 sound_kernel.sl.r_8 sound_kernel.sl.r_9
    rw [hv51, hv56, hv101, hv106, hv152, hv157]
    unfold res ssq acc1 acc0
    rfl
  isplitl [H8]
  · iexists _; iexists _; isplitr
    swap; · iexact H8
    ipureintro; rfl
  iexists _; isplitr
  swap; · iexact H9
  ipureintro
  refine (View.read_writes_eq_canon _ _ _ (cover_car _ _ _)).trans ?_
  rfl

theorem firstBit_zero (i : grid0.Coords) (h : (i 0).val = 0) : firstBit i = 1#1 := by
  unfold firstBit; rw [h]; rfl

theorem k0_pay5_eq (i : grid0.Coords) (v : Vec F S8x1024 .f32) :
    k0_pay5 i v = Scalar.select (firstBit i) (broadcast S8x1024 (Scalar.ofBits .f32 0x00000000#32)) v := rfl

/-- In the first block the carried rows are not read. -/
theorem OUT_first (i : grid0.Coords) (h : (i 0).val = 0) (x0 : Vec F S512x1024 .f32) (x1 : Vec F S1x1024 .f32) (x2 : Vec F S1024x5632 .bf16)
    (x3 : Vec F S3x2816 .f32) (x4 : Vec F S1x2816 .f32) (x5 : Vec F S2816x1024 .bf16) (x6 : Vec F S1x1024 .f32) (x9 x9' : Vec F S8x2816 .f32) :
    OUT i x0 x1 x2 x3 x4 x5 x6 x9 = OUT i x0 x1 x2 x3 x4 x5 x6 x9' := by
  have e0 : p0 i x9 = p0 i x9' := by unfold p0; rw [k0_pay5_eq, k0_pay5_eq, firstBit_zero i h]; rfl
  have e1 : p1 i x9 = p1 i x9' := by unfold p1; rw [firstBit_zero i h]; rfl
  have e2 : p2 i x9 = p2 i x9' := by unfold p2; rw [firstBit_zero i h]; rfl
  have s0 : st0 i x0 x1 x2 x9 = st0 i x0 x1 x2 x9' := by unfold st0; rw [e0]
  have s1 : st1 i x0 x1 x2 x9 = st1 i x0 x1 x2 x9' := by unfold st1; rw [e1, s0]
  have s2 : st2 i x0 x1 x2 x9 = st2 i x0 x1 x2 x9' := by unfold st2; rw [e2, s1]
  unfold OUT res ssq acc1 acc0 u0 v0 u1 v1 u2 v2
  rw [s0, s1, s2]

theorem owns_of_whole (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  rw [owns_whole]
theorem whole_of_owns (c : Dev nD) (b : Ref sig .tc) (f : Buf (Elt F) ((c : Thread nD τ).loc b)) :
    (owns (c : Thread nD τ) (Memref.whole b) fullShare f : sProp 𝕄) ⊢ (((c : Thread nD τ).loc b) ↦{fullShare} f) := by
  rw [owns_whole]

variable (m : (ℓ : Loc nD τ sig) → Buf (Elt F) ℓ) (ρ : Dev nD → PrngReg)

/-- The rows block `t` carries to the next, -/
def carry (c : Dev nD) (t : Fin cfg0.N) : Vec F S8x2816 .f32 := CAR (iblk m c 0 t) (iblk m c 1 t) (iblk m c 2 t)
/-- and those block `t` is given: the block before's, and for the first block, which does not read them, its own. -/
def given (c : Dev nD) (t : Fin cfg0.N) : Vec F S8x2816 .f32 :=
  carry m c ⟨t.val - 1, Nat.lt_of_le_of_lt (Nat.sub_le _ _) t.isLt⟩

/-- The proof data: the carried rows are those of the block before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => OUT (grid0.coords t) (iblk m c 0 t) (iblk m c 1 t) (iblk m c 2 t) (iblk m c 3 t) (iblk m c 4 t) (iblk m c 5 t) (iblk m c 6 t) (given m c t)
  Φ t := iprop((∃ d, owns (c : Thread nD τ) (Memref.whole cc0_scratch0) fullShare d)
    ∗ (∃ d, ⌜∀ s : Fin cfg0.N, s.val + 1 = t.val → d = carry m c s⌝ ∗ owns (c : Thread nD τ) (Memref.whole cc0_scratch1) fullShare d) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t
    = OUT (grid0.coords t) (iblk m c 0 t) (iblk m c 1 t) (iblk m c 2 t) (iblk m c 3 t) (iblk m c 4 t) (iblk m c 5 t) (iblk m c 6 t) (given m c t) := by
  dsimp only [dats]

theorem coords_zero (t : Fin cfg0.N) (h : t.val = 0) : (grid0.coords t 0).val = 0 := by
  rw [show t = (⟨0, by decide⟩ : Fin cfg0.N) from Fin.ext h]; rfl

theorem OUT_given (c : Dev nD) (t : Fin cfg0.N) (d : Vec F S8x2816 .f32) (hd : ∀ s : Fin cfg0.N, s.val + 1 = t.val → d = carry m c s) :
    OUT (grid0.coords t) (iblk m c 0 t) (iblk m c 1 t) (iblk m c 2 t) (iblk m c 3 t) (iblk m c 4 t) (iblk m c 5 t) (iblk m c 6 t) d
      = OUT (grid0.coords t) (iblk m c 0 t) (iblk m c 1 t) (iblk m c 2 t) (iblk m c 3 t) (iblk m c 4 t) (iblk m c 5 t) (iblk m c 6 t) (given m c t) := by
  by_cases h : t.val = 0
  · exact OUT_first _ (coords_zero t h) _ _ _ _ _ _ _ _ _
  · rw [hd ⟨t.val - 1, Nat.lt_of_le_of_lt (Nat.sub_le _ _) t.isLt⟩ (Nat.sub_add_cancel (Nat.pos_of_ne_zero h))]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7,
    show (dats m 0 c).Φ t.castSucc = iprop((∃ d, owns (c : Thread nD τ) (Memref.whole cc0_scratch0) fullShare d)
      ∗ (∃ d, ⌜∀ s : Fin cfg0.N, s.val + 1 = t.castSucc.val → d = carry m c s⌝ ∗ owns (c : Thread nD τ) (Memref.whole cc0_scratch1) fullShare d) ∗ ∃ r, prngReg c r) from rfl,
    show (dats m 0 c).Φ t.succ = iprop((∃ d, owns (c : Thread nD τ) (Memref.whole cc0_scratch0) fullShare d)
      ∗ (∃ d, ⌜∀ s : Fin cfg0.N, s.val + 1 = t.succ.val → d = carry m c s⌝ ∗ owns (c : Thread nD τ) (Memref.whole cc0_scratch1) fullShare d) ∗ ∃ r, prngReg c r) from rfl]
  iintro ⟨⟨S0, ⟨%s1, %hs1, S1⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← OUT_given m c t s1 hs1]
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  iintro ⟨H0, H1, H2, H3, H4, H5, H6, H7, S0, S1⟩
  isplitl [S0 S1 Hp]
  · isplitl [S0]; · iexact S0
    isplitl [S1]
    · iexists _; isplitr
      swap; · iexact S1
      ipureintro
      intro s hs
      rw [show s = t from Fin.ext (Nat.succ.inj hs)]; rfl
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦA spec0 c ⊢ (dats m 0 c).Φ 0 := by
  rw [show (dats m 0 c).Φ 0 = iprop((∃ d, owns (c : Thread nD τ) (Memref.whole cc0_scratch0) fullShare d)
      ∗ (∃ d, ⌜∀ s : Fin cfg0.N, s.val + 1 = 0 → d = carry m c s⌝ ∗ owns (c : Thread nD τ) (Memref.whole cc0_scratch1) fullShare d) ∗ ∃ r, prngReg c r) from rfl]
  unfold Pipeline.ΦA
  rw [scopedRest0_eq]
  iintro ⟨⟨⟨%s0, S0⟩, ⟨%s1, S1⟩⟩, Hp⟩
  isplitl [S0]; · iexists _; iapply (owns_of_whole c _ _) $$ S0
  isplitl [S1]
  · iexists _; isplitr
    swap; · iapply (owns_of_whole c _ _) $$ S1
    ipureintro
    intro s hs
    exact absurd hs (Nat.succ_ne_zero _)
  iexact Hp

theorem leave (c : Dev nD) : (dats m 0 c).Φ (Fin.last cfg0.N) ⊢ Pipeline.ΦA spec0 c := by
  rw [show (dats m 0 c).Φ (Fin.last cfg0.N) = iprop((∃ d, owns (c : Thread nD τ) (Memref.whole cc0_scratch0) fullShare d)
      ∗ (∃ d, ⌜∀ s : Fin cfg0.N, s.val + 1 = (Fin.last cfg0.N).val → d = carry m c s⌝ ∗ owns (c : Thread nD τ) (Memref.whole cc0_scratch1) fullShare d) ∗ ∃ r, prngReg c r) from rfl]
  unfold Pipeline.ΦA
  rw [scopedRest0_eq]
  iintro ⟨⟨%s0, S0⟩, ⟨%s1, -, S1⟩, Hp⟩
  isplitl [S0 S1]
  · isplitl [S0]; · iexists _; iapply (whole_of_owns c _ _) $$ S0
    iexists _; iapply (whole_of_owns c _ _) $$ S1
  iexact Hp

set_option backward.isDefEq.respectTransparency.types false in
set_option maxHeartbeats 800000 in
/-- The run: the result's array at the blocks `OUT`, every other buffer as the region found it. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FfnIdeal.Hand

end
-- ==== Proof.FfnIdeal.Columns.lean ====
/-
  The columns of the up projection, chunk by chunk: the reference's product at the block's rows.
-/
module

public import proofs.«01_k».proof.Proof.FfnIdeal.Body
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnIdeal.Eq

open Cert.FfnIdeal Cert.FfnIdeal.Gen Cert.FfnIdeal.Hand Cert.FfnRefIdeal.Read

variable (m : (ℓ : Loc nD τ sig) → Buf (Elt Ideal) ℓ)

/-- Every window's block index, by the point's number. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0] :=
  (by decide +kernel : ∀ t : Fin grid0.N, _)

/-- The reference's product of the normed rows with the up projection: the value columns, then the gate columns. -/
abbrev AB (c : Dev nD) : FVec Ideal Cert.FfnRefIdeal.S16384x5632 .f32 :=
  val_main_v15 (F := Ideal) (m ((c : Thread nD τ).loc main_arg0)) (m ((c : Thread nD τ).loc main_arg1)) (m ((c : Thread nD τ).loc main_arg2))

theorem a0_at (c : Dev nD) (t : Fin cfg0.N) (y : S512x1024.Idx) (j : Cert.FfnRefIdeal.S16384x5632.Idx) (h0 : (j 0 : ℕ) = t.val * 512 + y 0) (h1 : (j 1 : ℕ) = 0 + y 1) :
    Hand.a0 (F := Ideal) (iblk m c 0 t) (iblk m c 1 t) (iblk m c 2 t) y = AB m c j := by
  pointwise [Hand.a0, Hand.hN, k0_pay3, k0_pay2, AB, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx_val t]

theorem b0_at (c : Dev nD) (t : Fin cfg0.N) (y : S512x1024.Idx) (j : Cert.FfnRefIdeal.S16384x5632.Idx) (h0 : (j 0 : ℕ) = t.val * 512 + y 0) (h1 : (j 1 : ℕ) = 2816 + y 1) :
    Hand.b0 (F := Ideal) (iblk m c 0 t) (iblk m c 1 t) (iblk m c 2 t) y = AB m c j := by
  pointwise [Hand.b0, Hand.hN, k0_pay4, k0_pay2, AB, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx_val t]

theorem a1_at (c : Dev nD) (t : Fin cfg0.N) (y : S512x1024.Idx) (j : Cert.FfnRefIdeal.S16384x5632.Idx) (h0 : (j 0 : ℕ) = t.val * 512 + y 0) (h1 : (j 1 : ℕ) = 1024 + y 1) :
    Hand.a1 (F := Ideal) (iblk m c 0 t) (iblk m c 1 t) (iblk m c 2 t) y = AB m c j := by
  pointwise [Hand.a1, Hand.hN, k0_pay14, k0_pay11, k0_pay2, AB, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx_val t]

theorem b1_at (c : Dev nD) (t : Fin cfg0.N) (y : S512x1024.Idx) (j : Cert.FfnRefIdeal.S16384x5632.Idx) (h0 : (j 0 : ℕ) = t.val * 512 + y 0) (h1 : (j 1 : ℕ) = 3840 + y 1) :
    Hand.b1 (F := Ideal) (iblk m c 0 t) (iblk m c 1 t) (iblk m c 2 t) y = AB m c j := by
  pointwise [Hand.b1, Hand.hN, k0_pay12, k0_pay2, AB, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx_val t]

theorem a2_at (c : Dev nD) (t : Fin cfg0.N) (y : S512x768.Idx) (j : Cert.FfnRefIdeal.S16384x5632.Idx) (h0 : (j 0 : ℕ) = t.val * 512 + y 0) (h1 : (j 1 : ℕ) = 2048 + y 1) :
    Hand.a2 (F := Ideal) (iblk m c 0 t) (iblk m c 1 t) (iblk m c 2 t) y = AB m c j := by
  pointwise [Hand.a2, Hand.hN, k0_pay19, k0_pay2, AB, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx_val t]

theorem b2_at (c : Dev nD) (t : Fin cfg0.N) (y : S512x768.Idx) (j : Cert.FfnRefIdeal.S16384x5632.Idx) (h0 : (j 0 : ℕ) = t.val * 512 + y 0) (h1 : (j 1 : ℕ) = 4864 + y 1) :
    Hand.b2 (F := Ideal) (iblk m c 0 t) (iblk m c 1 t) (iblk m c 2 t) y = AB m c j := by
  pointwise [Hand.b2, Hand.hN, k0_pay20, k0_pay2, AB, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx_val t]

end Cert.FfnIdeal.Eq

end
-- ==== Proof.FfnIdeal.Buffer.lean ====
/-
  The shift buffer after each chunk's stores: the value columns eight rows down, the block before's last rows above.
-/
module

public import proofs.«01_k».proof.Proof.FfnIdeal.Columns
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnIdeal.Eq

open Cert.FfnIdeal Cert.FfnIdeal.Gen Cert.FfnIdeal.Hand Cert.FfnRefIdeal.Read

variable (m : (ℓ : Loc nD τ sig) → Buf (Elt Ideal) ℓ)

/-- A piece-wise written buffer, read inside its last piece, -/
theorem canon_in {S : Shape} {e : EltTy} {off size : Fin S.rank → Nat} (inb : ∀ a, off a + size a ≤ S.size a)
    (w : (⟨S.rank, size⟩ : Shape).Idx → Elt Ideal e) (L : List (View.Piece (Elt Ideal) S e)) (z : S.Idx) (x : (⟨S.rank, size⟩ : Shape).Idx)
    (h : ∀ a, (z a : ℕ) = off a + x a) :
    View.canon ((⟨Rect.unit off size inb, w⟩ : View.Piece (Elt Ideal) S e) :: L) z = w x := by
  have hz : z = (Rect.unit off size inb).emb x := funext fun a => Fin.ext ((h a).trans (Rect.idx_unit_val off size inb x a).symm)
  rw [hz]
  exact View.canon_cons_emb (Rect.unit off size inb) w L x

/-- and outside of it. -/
theorem canon_out {S : Shape} {e : EltTy} {off size : Fin S.rank → Nat} (inb : ∀ a, off a + size a ≤ S.size a)
    (w : (⟨S.rank, size⟩ : Shape).Idx → Elt Ideal e) (L : List (View.Piece (Elt Ideal) S e)) (z : S.Idx) (a : Fin S.rank)
    (h : (z a : ℕ) < off a ∨ off a + size a ≤ (z a : ℕ)) :
    View.canon ((⟨Rect.unit off size inb, w⟩ : View.Piece (Elt Ideal) S e) :: L) z = View.canon L z :=
  View.canon_cons_of_not_mem _ L fun hm => by
    have := (Rect.mem_set_unit (off := off) (size := size) (inb := inb)).mp hm a
    omega

theorem firstBit_val : ∀ t : Fin cfg0.N, firstBit (grid0.coords t) = if t.val % 16 = 0 then 1#1 else 0#1 :=
  (by decide +kernel : ∀ t : Fin grid0.N, _)

/-- The carried rows are the last eight rows of the block's value columns. -/
theorem CAR_at (c : Dev nD) (t : Fin cfg0.N) (z : S8x2816.Idx) (j : Cert.FfnRefIdeal.S16384x5632.Idx) (h0 : (j 0 : ℕ) = t.val * 512 + 504 + z 0) (h1 : (j 1 : ℕ) = z 1) :
    CAR (F := Ideal) (iblk m c 0 t) (iblk m c 1 t) (iblk m c 2 t) z = AB m c j := by
  have hz0 : (z 0 : ℕ) < 8 := (z 0).isLt
  have hz1 : (z 1 : ℕ) < 2816 := (z 1).isLt
  unfold CAR
  by_cases ha : (z 1 : ℕ) < 1024
  · obtain_idx x : S8x1024 := [(z 0 : ℕ), (z 1 : ℕ)] with hx
    obtain_idx y : S512x1024 := [504 + (z 0 : ℕ), (z 1 : ℕ)] with hy
    rw [canon_out _ _ _ z 1 (.inl (show (z 1 : ℕ) < 2048 by omega)), canon_out _ _ _ z 1 (.inl (show (z 1 : ℕ) < 1024 by omega)), canon_in _ _ _ z x (Fin.forall_fin_two.2 ⟨show (z 0 : ℕ) = 0 + x 0 by omega, show (z 1 : ℕ) = 0 + x 1 by omega⟩)]
    rw [← a0_at m c t y j (by omega) (by omega)]
    pointwise [k0_pay8]
    blk_point
  · by_cases hb : (z 1 : ℕ) < 2048
    · obtain_idx x : S8x1024 := [(z 0 : ℕ), (z 1 : ℕ) - 1024] with hx
      obtain_idx y : S512x1024 := [504 + (z 0 : ℕ), (z 1 : ℕ) - 1024] with hy
      rw [canon_out _ _ _ z 1 (.inl (show (z 1 : ℕ) < 2048 by omega)), canon_in _ _ _ z x (Fin.forall_fin_two.2 ⟨show (z 0 : ℕ) = 0 + x 0 by omega, show (z 1 : ℕ) = 1024 + x 1 by omega⟩)]
      rw [← a1_at m c t y j (by omega) (by omega)]
      pointwise [k0_pay15, Hand.a1, k0_pay14, k0_pay11]
      blk_point
    · obtain_idx x : S8x768 := [(z 0 : ℕ), (z 1 : ℕ) - 2048] with hx
      obtain_idx y : S512x768 := [504 + (z 0 : ℕ), (z 1 : ℕ) - 2048] with hy
      rw [canon_in _ _ _ z x (Fin.forall_fin_two.2 ⟨show (z 0 : ℕ) = 0 + x 0 by omega, show (z 1 : ℕ) = 2048 + x 1 by omega⟩)]
      rw [← a2_at m c t y j (by omega) (by omega)]
      pointwise [k0_pay24, k0_pay23, Hand.a2, k0_pay19]
      blk_point

theorem given_at (c : Dev nD) (t : Fin cfg0.N) (ht : t.val ≠ 0) (z : S8x2816.Idx) (j : Cert.FfnRefIdeal.S16384x5632.Idx) (h0 : (j 0 : ℕ) + 8 = t.val * 512 + z 0) (h1 : (j 1 : ℕ) = z 1) :
    given (F := Ideal) m c t z = AB m c j :=
  CAR_at m c _ z j (by show (j 0 : ℕ) = (t.val - 1) * 512 + 504 + z 0; omega) h1

/-- The shift buffer after chunk 0's stores: its rows are the block's from row eight on, those above it the block before's, -/
theorem st0_row (c : Dev nD) (t : Fin cfg0.N) (z : S520x2816.Idx) (j : Cert.FfnRefIdeal.S16384x5632.Idx) (hj0 : (j 0 : ℕ) + 8 = t.val * 512 + z 0) (hj1 : (j 1 : ℕ) = z 1)
    (hl : 0 ≤ (z 1 : ℕ)) (hr : (z 1 : ℕ) < 1024) (h : 8 ≤ (z 0 : ℕ) ∨ t.val % 16 ≠ 0) :
    View.canon (st0 (F := Ideal) (grid0.coords t) (iblk m c 0 t) (iblk m c 1 t) (iblk m c 2 t) (given m c t)) z = AB m c j := by
  have hz0 : (z 0 : ℕ) < 520 := (z 0).isLt
  unfold st0
  by_cases h8 : 8 ≤ (z 0 : ℕ)
  · obtain_idx y : S512x1024 := [(z 0 : ℕ) - 8, (z 1 : ℕ) - 0] with hy
    rw [canon_in _ _ _ z y (Fin.forall_fin_two.2 ⟨show (z 0 : ℕ) = 8 + y 0 by omega, show (z 1 : ℕ) = 0 + y 1 by omega⟩), ← a0_at m c t y j (by omega) (by omega)]
    pointwise [k0_pay7]
  · have h16 := h.resolve_left h8
    obtain_idx y : S8x1024 := [(z 0 : ℕ), (z 1 : ℕ) - 0] with hy
    obtain_idx x : S8x2816 := [(z 0 : ℕ), (z 1 : ℕ)] with hx
    rw [canon_out _ _ _ z 0 (.inl (show (z 0 : ℕ) < 8 by omega)), canon_in _ _ _ z y (Fin.forall_fin_two.2 ⟨show (z 0 : ℕ) = 0 + y 0 by omega, show (z 1 : ℕ) = 0 + y 1 by omega⟩), ← given_at m c t (by omega) x j (by omega) (by omega)]
    pointwise [p0, k0_pay6, k0_pay5_eq]
    rw [firstBit_val, if_neg h16]
    blk_point

/-- and zeros in a sequence's first block. -/
theorem st0_zero (c : Dev nD) (t : Fin cfg0.N) (z : S520x2816.Idx) (hl : 0 ≤ (z 1 : ℕ)) (hr : (z 1 : ℕ) < 1024) (h : (z 0 : ℕ) < 8) (h16 : t.val % 16 = 0) :
    View.canon (st0 (F := Ideal) (grid0.coords t) (iblk m c 0 t) (iblk m c 1 t) (iblk m c 2 t) (given m c t)) z = (0 : EReal) := by
  unfold st0
  obtain_idx y : S8x1024 := [(z 0 : ℕ), (z 1 : ℕ) - 0] with hy
  rw [canon_out _ _ _ z 0 (.inl (show (z 0 : ℕ) < 8 by omega)), canon_in _ _ _ z y (Fin.forall_fin_two.2 ⟨show (z 0 : ℕ) = 0 + y 0 by omega, show (z 1 : ℕ) = 0 + y 1 by omega⟩)]
  pointwise [p0, k0_pay6, k0_pay5_eq]
  rw [firstBit_val, if_pos h16]
  rfl

/-- The shift buffer after chunk 1's stores: its rows are the block's from row eight on, those above it the block before's, -/
theorem st1_row (c : Dev nD) (t : Fin cfg0.N) (z : S520x2816.Idx) (j : Cert.FfnRefIdeal.S16384x5632.Idx) (hj0 : (j 0 : ℕ) + 8 = t.val * 512 + z 0) (hj1 : (j 1 : ℕ) = z 1)
    (hl : 1024 ≤ (z 1 : ℕ)) (hr : (z 1 : ℕ) < 2048) (h : 8 ≤ (z 0 : ℕ) ∨ t.val % 16 ≠ 0) :
    View.canon (st1 (F := Ideal) (grid0.coords t) (iblk m c 0 t) (iblk m c 1 t) (iblk m c 2 t) (given m c t)) z = AB m c j := by
  have hz0 : (z 0 : ℕ) < 520 := (z 0).isLt
  unfold st1
  by_cases h8 : 8 ≤ (z 0 : ℕ)
  · obtain_idx y : S512x1024 := [(z 0 : ℕ) - 8, (z 1 : ℕ) - 1024] with hy
    rw [canon_in _ _ _ z y (Fin.forall_fin_two.2 ⟨show (z 0 : ℕ) = 8 + y 0 by omega, show (z 1 : ℕ) = 1024 + y 1 by omega⟩), ← a1_at m c t y j (by omega) (by omega)]
  · have h16 := h.resolve_left h8
    obtain_idx y : S8x1024 := [(z 0 : ℕ), (z 1 : ℕ) - 1024] with hy
    obtain_idx x : S8x2816 := [(z 0 : ℕ), (z 1 : ℕ)] with hx
    rw [canon_out _ _ _ z 0 (.inl (show (z 0 : ℕ) < 8 by omega)), canon_in _ _ _ z y (Fin.forall_fin_two.2 ⟨show (z 0 : ℕ) = 0 + y 0 by omega, show (z 1 : ℕ) = 1024 + y 1 by omega⟩), ← given_at m c t (by omega) x j (by omega) (by omega)]
    pointwise [p1, k0_pay13]
    rw [firstBit_val, if_neg h16]
    blk_point

/-- and zeros in a sequence's first block. -/
theorem st1_zero (c : Dev nD) (t : Fin cfg0.N) (z : S520x2816.Idx) (hl : 1024 ≤ (z 1 : ℕ)) (hr : (z 1 : ℕ) < 2048) (h : (z 0 : ℕ) < 8) (h16 : t.val % 16 = 0) :
    View.canon (st1 (F := Ideal) (grid0.coords t) (iblk m c 0 t) (iblk m c 1 t) (iblk m c 2 t) (given m c t)) z = (0 : EReal) := by
  unfold st1
  obtain_idx y : S8x1024 := [(z 0 : ℕ), (z 1 : ℕ) - 1024] with hy
  rw [canon_out _ _ _ z 0 (.inl (show (z 0 : ℕ) < 8 by omega)), canon_in _ _ _ z y (Fin.forall_fin_two.2 ⟨show (z 0 : ℕ) = 0 + y 0 by omega, show (z 1 : ℕ) = 1024 + y 1 by omega⟩)]
  pointwise [p1, k0_pay13]
  rw [firstBit_val, if_pos h16]
  rfl

/-- The shift buffer after chunk 2's stores: its rows are the block's from row eight on, those above it the block before's, -/
theorem st2_row (c : Dev nD) (t : Fin cfg0.N) (z : S520x2816.Idx) (j : Cert.FfnRefIdeal.S16384x5632.Idx) (hj0 : (j 0 : ℕ) + 8 = t.val * 512 + z 0) (hj1 : (j 1 : ℕ) = z 1)
    (hl : 2048 ≤ (z 1 : ℕ)) (hr : (z 1 : ℕ) < 2816) (h : 8 ≤ (z 0 : ℕ) ∨ t.val % 16 ≠ 0) :
    View.canon (st2 (F := Ideal) (grid0.coords t) (iblk m c 0 t) (iblk m c 1 t) (iblk m c 2 t) (given m c t)) z = AB m c j := by
  have hz0 : (z 0 : ℕ) < 520 := (z 0).isLt
  unfold st2
  by_cases h8 : 8 ≤ (z 0 : ℕ)
  · obtain_idx y : S512x768 := [(z 0 : ℕ) - 8, (z 1 : ℕ) - 2048] with hy
    rw [canon_in _ _ _ z y (Fin.forall_fin_two.2 ⟨show (z 0 : ℕ) = 8 + y 0 by omega, show (z 1 : ℕ) = 2048 + y 1 by omega⟩), ← a2_at m c t y j (by omega) (by omega)]
    pointwise [Hand.a2, k0_pay22, k0_pay19]
  · have h16 := h.resolve_left h8
    obtain_idx y : S8x768 := [(z 0 : ℕ), (z 1 : ℕ) - 2048] with hy
    obtain_idx x : S8x2816 := [(z 0 : ℕ), (z 1 : ℕ)] with hx
    rw [canon_out _ _ _ z 0 (.inl (show (z 0 : ℕ) < 8 by omega)), canon_in _ _ _ z y (Fin.forall_fin_two.2 ⟨show (z 0 : ℕ) = 0 + y 0 by omega, show (z 1 : ℕ) = 2048 + y 1 by omega⟩), ← given_at m c t (by omega) x j (by omega) (by omega)]
    pointwise [p2, k0_pay21]
    rw [firstBit_val, if_neg h16]
    blk_point

/-- and zeros in a sequence's first block. -/
theorem st2_zero (c : Dev nD) (t : Fin cfg0.N) (z : S520x2816.Idx) (hl : 2048 ≤ (z 1 : ℕ)) (hr : (z 1 : ℕ) < 2816) (h : (z 0 : ℕ) < 8) (h16 : t.val % 16 = 0) :
    View.canon (st2 (F := Ideal) (grid0.coords t) (iblk m c 0 t) (iblk m c 1 t) (iblk m c 2 t) (given m c t)) z = (0 : EReal) := by
  unfold st2
  obtain_idx y : S8x768 := [(z 0 : ℕ), (z 1 : ℕ) - 2048] with hy
  rw [canon_out _ _ _ z 0 (.inl (show (z 0 : ℕ) < 8 by omega)), canon_in _ _ _ z y (Fin.forall_fin_two.2 ⟨show (z 0 : ℕ) = 0 + y 0 by omega, show (z 1 : ℕ) = 2048 + y 1 by omega⟩)]
  pointwise [p2, k0_pay21]
  rw [firstBit_val, if_pos h16]
  rfl

end Cert.FfnIdeal.Eq

end
-- ==== Proof.FfnIdeal.Reference.lean ====
/-
  The reference's gated convolution at an index.
-/
module

public import proofs.«01_k».proof.Proof.FfnIdeal.Buffer
public import proofs.«01_k».proof.Proof.Gen.FfnRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.FfnIdeal.Eq

open Cert.FfnIdeal Cert.FfnIdeal.Gen Cert.FfnIdeal.Hand Cert.FfnRefIdeal.Read

/-- The value columns `k` rows above `j`, zero above the sequence's first row. -/
def back (A : FVec Ideal Cert.FfnRefIdeal.S16384x5632 .f32) (k : ℕ) (j : Cert.FfnRefIdeal.S16384x5632.Idx) : EReal :=
  if (j 0 : ℕ) % 8192 < k then 0 else A (ix2 ⟨(j 0 : ℕ) - k, by have : (j 0 : ℕ) < 16384 := (j 0).isLt; show (j 0 : ℕ) - k < 16384; omega⟩ (j 1))

/-- The gated gelu of a conv output, and the conv output it is taken of. -/
def gated (y g : EReal) : EReal :=
  Ideal.ofBits FTy.f32 1056964608#32 * y * (1 + Ideal.erf (y * Ideal.ofBits FTy.f32 1060439283#32)) * g
def cell (c2 c1 c0 b a u v g : EReal) : EReal := gated (c2 * a + c1 * u + c0 * v + b) g

section
open Cert.FfnRefIdeal
variable (x0 : FVec Ideal S16384x1024 .f32) (x1 : FVec Ideal S1024 .f32) (x2 : FVec Ideal S1024x5632 .f32) (x3 : FVec Ideal S3x2816 .f32) (x4 : FVec Ideal S2816 .f32)

theorem v18_at (p : S2x8194x2816.Idx) (j : S16384x5632.Idx) (h : 2 ≤ (p 1 : ℕ)) (h0 : (j 0 : ℕ) + 2 = (p 0 : ℕ) * 8192 + p 1) (h1 : (j 1 : ℕ) = p 2) :
    val_main_v18 (F := Ideal) x0 x1 x2 p = val_main_v15 (F := Ideal) x0 x1 x2 j := by
  have hp0 : (p 0 : ℕ) < 2 := (p 0).isLt
  have hp1 : (p 1 : ℕ) < 8194 := (p 1).isLt
  have hp2 : (p 2 : ℕ) < 2816 := (p 2).isLt
  obtain_idx k : S2x8192x2816 := [(p 0 : ℕ), (p 1 : ℕ) - 2, (p 2 : ℕ)] with hk
  unfold val_main_v18
  refine (pad_apply_of_inside _ _ _ _ _ _ _ p k fun a => ?_).trans ?_
  · fin_cases a
    · show (p 0 : ℕ) = 0 + (k 0 : ℕ) * (0 + 1); omega
    · show (p 1 : ℕ) = 2 + (k 1 : ℕ) * (0 + 1); omega
    · show (p 2 : ℕ) = 0 + (k 2 : ℕ) * (0 + 1); omega
  · rw [val_main_v17_apply, val_main_v16_apply]
    refine congrArg _ (funext fun a => Fin.ext ?_)
    fin_cases a
    · show (((k 0).val * 8192 + (k 1).val) * 2816 + (k 2).val) / 2816 = (j 0 : ℕ); omega
    · show (((k 0).val * 8192 + (k 1).val) * 2816 + (k 2).val) % 2816 = (j 1 : ℕ); omega

theorem v18_zero (p : S2x8194x2816.Idx) (h : (p 1 : ℕ) < 2) : val_main_v18 (F := Ideal) x0 x1 x2 p = (0 : EReal) := by
  unfold val_main_v18
  rw [pad_apply_of_not_inside _ _ _ _ _ _ _ p 1 (fun hh => absurd (show 2 ≤ (p 1 : ℕ) from hh.1) (by omega))]
  pointwise [val_main_call0_v0, val_main_c]
  show (((0#32 : BitVec 32).toInt : ℝ) : EReal) = 0
  simp

theorem v18_back (k : ℕ) (p : S2x8194x2816.Idx) (j : S16384x5632.Idx) (hk : (p 1 : ℕ) + k = (j 0 : ℕ) % 8192 + 2) (h0 : (p 0 : ℕ) = (j 0 : ℕ) / 8192) (h1 : (j 1 : ℕ) = p 2) :
    val_main_v18 (F := Ideal) x0 x1 x2 p = back (val_main_v15 (F := Ideal) x0 x1 x2) k j := by
  unfold back
  split
  · exact v18_zero x0 x1 x2 p (by omega)
  · exact v18_at x0 x1 x2 p _ (by omega) (show (j 0 : ℕ) - k + 2 = (p 0 : ℕ) * 8192 + p 1 by omega) h1

theorem ref_cell (q : S16384x2816.Idx) (j j' : S16384x5632.Idx) (hj0 : (j 0 : ℕ) = q 0) (hj1 : (j 1 : ℕ) = q 1) (hg0 : (j' 0 : ℕ) = q 0) (hg1 : (j' 1 : ℕ) = 2816 + q 1) :
    val_main_v53 (F := Ideal) x0 x1 x2 x3 x4 q
      = cell (x3 (ix2 2 (q 1))) (x3 (ix2 1 (q 1))) (x3 (ix2 0 (q 1))) (x4 (ix1 (q 1))) (val_main_v15 (F := Ideal) x0 x1 x2 j)
          (back (val_main_v15 (F := Ideal) x0 x1 x2) 1 j) (back (val_main_v15 (F := Ideal) x0 x1 x2) 2 j) (val_main_v15 (F := Ideal) x0 x1 x2 j') := by
  have hq0 : (q 0 : ℕ) < 16384 := (q 0).isLt
  have hq1 : (q 1 : ℕ) < 2816 := (q 1).isLt
  have e0 : ((q 0).val * 2816 + (q 1).val) / 23068672 = (j 0 : ℕ) / 8192 := by omega
  have e1 : ((q 0).val * 2816 + (q 1).val) / 2816 % 8192 = (j 0 : ℕ) % 8192 := by omega
  have e2 : ((q 0).val * 2816 + (q 1).val) % 2816 = (j 1 : ℕ) := by omega
  have hg : val_main_v15 (F := Ideal) x0 x1 x2 (idx_main_v51 q) = val_main_v15 (F := Ideal) x0 x1 x2 j' :=
    congrArg _ (funext fun a => Fin.ext (by fin_cases a; exacts [hg0.symm, hg1.symm]))
  have h21 : val_main_v21 (F := Ideal) x0 x1 x2 (idx_main_v42 q) = val_main_v15 (F := Ideal) x0 x1 x2 j := by
    rw [val_main_v21_apply]
    exact v18_at x0 x1 x2 _ j (Nat.le_add_right _ _)
      (show (j 0 : ℕ) + 2 = ((q 0).val * 2816 + (q 1).val) / 23068672 * 8192 + (2 + ((q 0).val * 2816 + (q 1).val) / 2816 % 8192) by omega) e2.symm
  have h27 : val_main_v27 (F := Ideal) x0 x1 x2 (idx_main_v42 q) = back (val_main_v15 (F := Ideal) x0 x1 x2) 1 j := by
    rw [val_main_v27_apply]
    exact v18_back x0 x1 x2 1 _ j (show 1 + ((q 0).val * 2816 + (q 1).val) / 2816 % 8192 + 1 = (j 0 : ℕ) % 8192 + 2 by omega) e0 e2.symm
  have h34 : val_main_v34 (F := Ideal) x0 x1 x2 (idx_main_v42 q) = back (val_main_v15 (F := Ideal) x0 x1 x2) 2 j := by
    rw [val_main_v34_apply]
    exact v18_back x0 x1 x2 2 _ j (show ((q 0).val * 2816 + (q 1).val) / 2816 % 8192 + 2 = (j 0 : ℕ) % 8192 + 2 by omega) e0 e2.symm
  have hc : ∀ (p : S2x8192x2816.Idx), (p 2 : ℕ) = q 1 → val_main_v23 (F := Ideal) x3 p = x3 (ix2 2 (q 1)) ∧ val_main_v29 (F := Ideal) x3 p = x3 (ix2 1 (q 1))
      ∧ val_main_v36 (F := Ideal) x3 p = x3 (ix2 0 (q 1)) ∧ val_main_v40 (F := Ideal) x4 p = x4 (ix1 (q 1)) := fun p hp => by
    refine ⟨?_, ?_, ?_, ?_⟩
    · rw [val_main_v23_apply, val_main_v22_apply, val_main_v20_apply, val_main_v19_apply]
      blk_ext
    · rw [val_main_v29_apply, val_main_v28_apply, val_main_v26_apply, val_main_v25_apply]
      blk_ext
    · rw [val_main_v36_apply, val_main_v35_apply, val_main_v33_apply, val_main_v32_apply]
      blk_ext
    · rw [val_main_v40_apply, val_main_v39_apply]
      blk_ext
  obtain ⟨k2, k1, k0, kb⟩ := hc (idx_main_v42 q) (show ((q 0).val * 2816 + (q 1).val) % 2816 = q 1 by omega)
  simp only [val_main_v53_apply, val_main_v52_apply, val_main_v51_apply, val_main_v50_apply, val_main_v49_apply, val_main_v48_apply, val_main_v47_apply, val_main_v46_apply, val_main_v45_apply, val_main_v44_apply, val_main_v43_apply, val_main_v42_apply,
    val_main_v41_apply, val_main_v38_apply, val_main_v37_apply, val_main_v31_apply, val_main_v30_apply, val_main_v24_apply, hg, h21, h27, h34, k2, k1, k0, kb]
  generalize val_main_v15 (F := Ideal) x0 x1 x2 j = a
  generalize val_main_v15 (F := Ideal) x0 x1 x2 j' = g
  pointwise [cell, gated, val_main_cst_2, val_main_cst_3, val_main_cst_4]
end

end Cert.FfnIdeal.Eq

end
-- ==== Proof.FfnIdeal.Shift.lean ====
/-
  The rows one and two above, as each chunk loads them.
-/
module

public import proofs.«01_k».proof.Proof.FfnIdeal.Reference
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnIdeal.Eq

open Cert.FfnIdeal Cert.FfnIdeal.Gen Cert.FfnIdeal.Hand Cert.FfnRefIdeal.Read

variable (m : (ℓ : Loc nD τ sig) → Buf (Elt Ideal) ℓ)

theorem u0_at (c : Dev nD) (t : Fin cfg0.N) (y : S512x1024.Idx) (j : Cert.FfnRefIdeal.S16384x5632.Idx) (h0 : (j 0 : ℕ) = t.val * 512 + y 0) (h1 : (j 1 : ℕ) = 0 + y 1) :
    Hand.u0 (F := Ideal) (grid0.coords t) (iblk m c 0 t) (iblk m c 1 t) (iblk m c 2 t) (given m c t) y = back (AB m c) 1 j := by
  have ht : t.val < 32 := t.isLt
  have hy0 : (y 0 : ℕ) < 512 := (y 0).isLt
  have hy1 : (y 1 : ℕ) < 1024 := (y 1).isLt
  unfold Hand.u0 back
  beta_reduce
  have hz0 := Rect.idx_unit_val (s := S520x2816) ![7, 0] S512x1024.size inb_S520x2816_S512x1024_7_0 y 0
  have hz1 := Rect.idx_unit_val (s := S520x2816) ![7, 0] S512x1024.size inb_S520x2816_S512x1024_7_0 y 1
  generalize (Rect.unit (s := S520x2816) ![7, 0] S512x1024.size inb_S520x2816_S512x1024_7_0).toLoadRect.idx y = z at hz0 hz1 ⊢
  change (z 0 : ℕ) = 7 + y 0 at hz0
  change (z 1 : ℕ) = 0 + y 1 at hz1
  split
  · exact st0_zero m c t z (by omega) (by omega) (by omega) (by omega)
  · exact st0_row m c t z _ (show (j 0 : ℕ) - 1 + 8 = t.val * 512 + z 0 by omega) (show (j 1 : ℕ) = z 1 by omega) (by omega) (by omega) (by omega)

theorem v0_at (c : Dev nD) (t : Fin cfg0.N) (y : S512x1024.Idx) (j : Cert.FfnRefIdeal.S16384x5632.Idx) (h0 : (j 0 : ℕ) = t.val * 512 + y 0) (h1 : (j 1 : ℕ) = 0 + y 1) :
    Hand.v0 (F := Ideal) (grid0.coords t) (iblk m c 0 t) (iblk m c 1 t) (iblk m c 2 t) (given m c t) y = back (AB m c) 2 j := by
  have ht : t.val < 32 := t.isLt
  have hy0 : (y 0 : ℕ) < 512 := (y 0).isLt
  have hy1 : (y 1 : ℕ) < 1024 := (y 1).isLt
  unfold Hand.v0 back
  beta_reduce
  have hz0 := Rect.idx_unit_val (s := S520x2816) ![6, 0] S512x1024.size inb_S520x2816_S512x1024_6_0 y 0
  have hz1 := Rect.idx_unit_val (s := S520x2816) ![6, 0] S512x1024.size inb_S520x2816_S512x1024_6_0 y 1
  generalize (Rect.unit (s := S520x2816) ![6, 0] S512x1024.size inb_S520x2816_S512x1024_6_0).toLoadRect.idx y = z at hz0 hz1 ⊢
  change (z 0 : ℕ) = 6 + y 0 at hz0
  change (z 1 : ℕ) = 0 + y 1 at hz1
  split
  · exact st0_zero m c t z (by omega) (by omega) (by omega) (by omega)
  · exact st0_row m c t z _ (show (j 0 : ℕ) - 2 + 8 = t.val * 512 + z 0 by omega) (show (j 1 : ℕ) = z 1 by omega) (by omega) (by omega) (by omega)

theorem u1_at (c : Dev nD) (t : Fin cfg0.N) (y : S512x1024.Idx) (j : Cert.FfnRefIdeal.S16384x5632.Idx) (h0 : (j 0 : ℕ) = t.val * 512 + y 0) (h1 : (j 1 : ℕ) = 1024 + y 1) :
    Hand.u1 (F := Ideal) (grid0.coords t) (iblk m c 0 t) (iblk m c 1 t) (iblk m c 2 t) (given m c t) y = back (AB m c) 1 j := by
  have ht : t.val < 32 := t.isLt
  have hy0 : (y 0 : ℕ) < 512 := (y 0).isLt
  have hy1 : (y 1 : ℕ) < 1024 := (y 1).isLt
  unfold Hand.u1 back
  beta_reduce
  have hz0 := Rect.idx_unit_val (s := S520x2816) ![7, 1024] S512x1024.size inb_S520x2816_S512x1024_7_1024 y 0
  have hz1 := Rect.idx_unit_val (s := S520x2816) ![7, 1024] S512x1024.size inb_S520x2816_S512x1024_7_1024 y 1
  generalize (Rect.unit (s := S520x2816) ![7, 1024] S512x1024.size inb_S520x2816_S512x1024_7_1024).toLoadRect.idx y = z at hz0 hz1 ⊢
  change (z 0 : ℕ) = 7 + y 0 at hz0
  change (z 1 : ℕ) = 1024 + y 1 at hz1
  split
  · exact st1_zero m c t z (by omega) (by omega) (by omega) (by omega)
  · exact st1_row m c t z _ (show (j 0 : ℕ) - 1 + 8 = t.val * 512 + z 0 by omega) (show (j 1 : ℕ) = z 1 by omega) (by omega) (by omega) (by omega)

theorem v1_at (c : Dev nD) (t : Fin cfg0.N) (y : S512x1024.Idx) (j : Cert.FfnRefIdeal.S16384x5632.Idx) (h0 : (j 0 : ℕ) = t.val * 512 + y 0) (h1 : (j 1 : ℕ) = 1024 + y 1) :
    Hand.v1 (F := Ideal) (grid0.coords t) (iblk m c 0 t) (iblk m c 1 t) (iblk m c 2 t) (given m c t) y = back (AB m c) 2 j := by
  have ht : t.val < 32 := t.isLt
  have hy0 : (y 0 : ℕ) < 512 := (y 0).isLt
  have hy1 : (y 1 : ℕ) < 1024 := (y 1).isLt
  unfold Hand.v1 back
  beta_reduce
  have hz0 := Rect.idx_unit_val (s := S520x2816) ![6, 1024] S512x1024.size inb_S520x2816_S512x1024_6_1024 y 0
  have hz1 := Rect.idx_unit_val (s := S520x2816) ![6, 1024] S512x1024.size inb_S520x2816_S512x1024_6_1024 y 1
  generalize (Rect.unit (s := S520x2816) ![6, 1024] S512x1024.size inb_S520x2816_S512x1024_6_1024).toLoadRect.idx y = z at hz0 hz1 ⊢
  change (z 0 : ℕ) = 6 + y 0 at hz0
  change (z 1 : ℕ) = 1024 + y 1 at hz1
  split
  · exact st1_zero m c t z (by omega) (by omega) (by omega) (by omega)
  · exact st1_row m c t z _ (show (j 0 : ℕ) - 2 + 8 = t.val * 512 + z 0 by omega) (show (j 1 : ℕ) = z 1 by omega) (by omega) (by omega) (by omega)

theorem u2_at (c : Dev nD) (t : Fin cfg0.N) (y : S512x768.Idx) (j : Cert.FfnRefIdeal.S16384x5632.Idx) (h0 : (j 0 : ℕ) = t.val * 512 + y 0) (h1 : (j 1 : ℕ) = 2048 + y 1) :
    Hand.u2 (F := Ideal) (grid0.coords t) (iblk m c 0 t) (iblk m c 1 t) (iblk m c 2 t) (given m c t) y = back (AB m c) 1 j := by
  have ht : t.val < 32 := t.isLt
  have hy0 : (y 0 : ℕ) < 512 := (y 0).isLt
  have hy1 : (y 1 : ℕ) < 768 := (y 1).isLt
  unfold Hand.u2 back
  beta_reduce
  have hz0 := Rect.idx_unit_val (s := S520x2816) ![7, 2048] S512x768.size inb_S520x2816_S512x768_7_2048 y 0
  have hz1 := Rect.idx_unit_val (s := S520x2816) ![7, 2048] S512x768.size inb_S520x2816_S512x768_7_2048 y 1
  generalize (Rect.unit (s := S520x2816) ![7, 2048] S512x768.size inb_S520x2816_S512x768_7_2048).toLoadRect.idx y = z at hz0 hz1 ⊢
  change (z 0 : ℕ) = 7 + y 0 at hz0
  change (z 1 : ℕ) = 2048 + y 1 at hz1
  split
  · exact st2_zero m c t z (by omega) (by omega) (by omega) (by omega)
  · exact st2_row m c t z _ (show (j 0 : ℕ) - 1 + 8 = t.val * 512 + z 0 by omega) (show (j 1 : ℕ) = z 1 by omega) (by omega) (by omega) (by omega)

theorem v2_at (c : Dev nD) (t : Fin cfg0.N) (y : S512x768.Idx) (j : Cert.FfnRefIdeal.S16384x5632.Idx) (h0 : (j 0 : ℕ) = t.val * 512 + y 0) (h1 : (j 1 : ℕ) = 2048 + y 1) :
    Hand.v2 (F := Ideal) (grid0.coords t) (iblk m c 0 t) (iblk m c 1 t) (iblk m c 2 t) (given m c t) y = back (AB m c) 2 j := by
  have ht : t.val < 32 := t.isLt
  have hy0 : (y 0 : ℕ) < 512 := (y 0).isLt
  have hy1 : (y 1 : ℕ) < 768 := (y 1).isLt
  unfold Hand.v2 back
  beta_reduce
  have hz0 := Rect.idx_unit_val (s := S520x2816) ![6, 2048] S512x768.size inb_S520x2816_S512x768_6_2048 y 0
  have hz1 := Rect.idx_unit_val (s := S520x2816) ![6, 2048] S512x768.size inb_S520x2816_S512x768_6_2048 y 1
  generalize (Rect.unit (s := S520x2816) ![6, 2048] S512x768.size inb_S520x2816_S512x768_6_2048).toLoadRect.idx y = z at hz0 hz1 ⊢
  change (z 0 : ℕ) = 6 + y 0 at hz0
  change (z 1 : ℕ) = 2048 + y 1 at hz1
  split
  · exact st2_zero m c t z (by omega) (by omega) (by omega) (by omega)
  · exact st2_row m c t z _ (show (j 0 : ℕ) - 2 + 8 = t.val * 512 + z 0 by omega) (show (j 1 : ℕ) = z 1 by omega) (by omega) (by omega) (by omega)

end Cert.FfnIdeal.Eq

end
-- ==== Proof.FfnIdeal.Cells.lean ====
/-
  Each chunk's gated rows are the reference's.
-/
module

public import proofs.«01_k».proof.Proof.FfnIdeal.Shift
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnIdeal.Eq

open Cert.FfnIdeal Cert.FfnIdeal.Gen Cert.FfnIdeal.Hand Cert.FfnRefIdeal.Read

variable (m : (ℓ : Loc nD τ sig) → Buf (Elt Ideal) ℓ)

/-- The chunks' products, each a sum of cells times the down projection's rows. -/
theorem pay10_at (a b u v : FVec Ideal S512x1024 .f32) (cw : FVec Ideal S3x1024 .f32) (cb : FVec Ideal S1x1024 .f32) (w : FVec Ideal S1024x1024 .bf16) (y : S512x1024.Idx) :
    k0_pay10 (F := Ideal) (k0_pay9 a b cw u v cb) w y = ∑ k : Fin 1024, cell (cw (ix2 2 k)) (cw (ix2 1 k)) (cw (ix2 0 k)) (cb (ix2 0 k)) (a (ix2 (y 0) k)) (u (ix2 (y 0) k)) (v (ix2 (y 0) k)) (b (ix2 (y 0) k)) * w (ix2 k (y 1)) := by
  pointwise [k0_pay10, k0_pay9, cell, gated]
  rfl

theorem pay18_at (acc b u v : FVec Ideal S512x1024 .f32) (h : FVec Ideal S512x1024 .bf16) (wa : FVec Ideal S1024x1024 .bf16) (cw : FVec Ideal S3x1024 .f32) (cb : FVec Ideal S1x1024 .f32) (w : FVec Ideal S1024x1024 .bf16) (y : S512x1024.Idx) :
    k0_pay18 (F := Ideal) acc b (k0_pay16 h wa cw u) (k0_pay17 cw v) cb w y = acc y + ∑ k : Fin 1024, cell (cw (ix2 2 k)) (cw (ix2 1 k)) (cw (ix2 0 k)) (cb (ix2 0 k)) (k0_pay14 h wa (ix2 (y 0) k)) (u (ix2 (y 0) k)) (v (ix2 (y 0) k)) (b (ix2 (y 0) k)) * w (ix2 k (y 1)) := by
  have e : k0_pay11 (F := Ideal) h wa = k0_pay14 h wa := by
    funext z
    pointwise [k0_pay14]
  unfold k0_pay16
  rw [e]
  generalize k0_pay14 (F := Ideal) h wa = a
  pointwise [k0_pay18, k0_pay17, cell, gated]
  rfl

theorem pay25_at (x acc : FVec Ideal S512x1024 .f32) (a b u v : FVec Ideal S512x768 .f32) (cw : FVec Ideal S3x768 .f32) (cb : FVec Ideal S1x768 .f32) (w : FVec Ideal S768x1024 .bf16) (y : S512x1024.Idx) :
    k0_pay25 (F := Ideal) x acc a b cw u v cb w y = x y + (acc y + ∑ k : Fin 768, cell (cw (ix2 2 k)) (cw (ix2 1 k)) (cw (ix2 0 k)) (cb (ix2 0 k)) (a (ix2 (y 0) k)) (u (ix2 (y 0) k)) (v (ix2 (y 0) k)) (b (ix2 (y 0) k)) * w (ix2 k (y 1))) := by
  pointwise [k0_pay25, cell, gated]
  rfl

/-- The reference's gated rows. -/
abbrev GT (c : Dev nD) : FVec Ideal Cert.FfnRefIdeal.S16384x2816 .bf16 :=
  val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem cw0_at (c : Dev nD) (t : Fin cfg0.N) (r : Fin 3) (k : Fin 1024) (q : Fin 2816) (h1 : (q : ℕ) = 0 + k) :
    (View.ld (iblk m c 3 t) (Rect.unit (s := S3x2816) ![0, 0] S3x1024.size inb_S3x2816_S3x1024_0_0) : FVec Ideal S3x1024 .f32) (ix2 r k) = (m ((c : Thread nD τ).loc main_arg3) : FVec Ideal S3x2816 .f32) (ix2 r q) := by
  blk_point [iblk, V, idx_val t]

theorem cb0_at (c : Dev nD) (t : Fin cfg0.N) (k : Fin 1024) (q : Fin 2816) (h1 : (q : ℕ) = 0 + k) :
    (View.ld (iblk m c 4 t) (Rect.unit (s := S1x2816) ![0, 0] S1x1024.size inb_S1x2816_S1x1024_0_0) : FVec Ideal S1x1024 .f32) (ix2 0 k) = (m ((c : Thread nD τ).loc main_arg4) : FVec Ideal S2816 .f32) (ix1 q) := by
  blk_simp [iblk, V, idx_val t]
  pointwise

  blk_point [idx_val t]

theorem cell0_at (c : Dev nD) (t : Fin cfg0.N) (y : S512x1024.Idx) (k : Fin 1024) (hk : (y 1 : ℕ) = k) (q : Cert.FfnRefIdeal.S16384x2816.Idx) (h0 : (q 0 : ℕ) = t.val * 512 + y 0) (h1 : (q 1 : ℕ) = 0 + y 1) :
    cell ((View.ld (iblk m c 3 t) (Rect.unit (s := S3x2816) ![0, 0] S3x1024.size inb_S3x2816_S3x1024_0_0) : FVec Ideal S3x1024 .f32) (ix2 2 k)) ((View.ld (iblk m c 3 t) (Rect.unit (s := S3x2816) ![0, 0] S3x1024.size inb_S3x2816_S3x1024_0_0) : FVec Ideal S3x1024 .f32) (ix2 1 k)) ((View.ld (iblk m c 3 t) (Rect.unit (s := S3x2816) ![0, 0] S3x1024.size inb_S3x2816_S3x1024_0_0) : FVec Ideal S3x1024 .f32) (ix2 0 k))
      ((View.ld (iblk m c 4 t) (Rect.unit (s := S1x2816) ![0, 0] S1x1024.size inb_S1x2816_S1x1024_0_0) : FVec Ideal S1x1024 .f32) (ix2 0 k)) (Hand.a0 (F := Ideal) (iblk m c 0 t) (iblk m c 1 t) (iblk m c 2 t) y) (Hand.u0 (F := Ideal) (grid0.coords t) (iblk m c 0 t) (iblk m c 1 t) (iblk m c 2 t) (given m c t) y)
      (Hand.v0 (F := Ideal) (grid0.coords t) (iblk m c 0 t) (iblk m c 1 t) (iblk m c 2 t) (given m c t) y) (Hand.b0 (F := Ideal) (iblk m c 0 t) (iblk m c 1 t) (iblk m c 2 t) y) = GT m c q := by
  have hq0 : (q 0 : ℕ) < 16384 := (q 0).isLt
  have hq1 : (q 1 : ℕ) < 2816 := (q 1).isLt
  obtain_idx j : Cert.FfnRefIdeal.S16384x5632 := [(q 0 : ℕ), (q 1 : ℕ)] with hj
  obtain_idx j' : Cert.FfnRefIdeal.S16384x5632 := [(q 0 : ℕ), 2816 + (q 1 : ℕ)] with hj'
  rw [GT, ref_cell _ _ _ _ _ q j j' hj0 hj1 hj'0 hj'1, cw0_at m c t 2 k (q 1) (by omega), cw0_at m c t 1 k (q 1) (by omega), cw0_at m c t 0 k (q 1) (by omega), cb0_at m c t k (q 1) (by omega),
    a0_at m c t y j (by omega) (by omega), u0_at m c t y j (by omega) (by omega), v0_at m c t y j (by omega) (by omega), b0_at m c t y j' (by omega) (by omega)]

theorem cw1_at (c : Dev nD) (t : Fin cfg0.N) (r : Fin 3) (k : Fin 1024) (q : Fin 2816) (h1 : (q : ℕ) = 1024 + k) :
    (View.ld (iblk m c 3 t) (Rect.unit (s := S3x2816) ![0, 1024] S3x1024.size inb_S3x2816_S3x1024_0_1024) : FVec Ideal S3x1024 .f32) (ix2 r k) = (m ((c : Thread nD τ).loc main_arg3) : FVec Ideal S3x2816 .f32) (ix2 r q) := by
  blk_point [iblk, V, idx_val t]

theorem cb1_at (c : Dev nD) (t : Fin cfg0.N) (k : Fin 1024) (q : Fin 2816) (h1 : (q : ℕ) = 1024 + k) :
    (View.ld (iblk m c 4 t) (Rect.unit (s := S1x2816) ![0, 1024] S1x1024.size inb_S1x2816_S1x1024_0_1024) : FVec Ideal S1x1024 .f32) (ix2 0 k) = (m ((c : Thread nD τ).loc main_arg4) : FVec Ideal S2816 .f32) (ix1 q) := by
  blk_simp [iblk, V, idx_val t]
  pointwise

  blk_point [idx_val t]

theorem cell1_at (c : Dev nD) (t : Fin cfg0.N) (y : S512x1024.Idx) (k : Fin 1024) (hk : (y 1 : ℕ) = k) (q : Cert.FfnRefIdeal.S16384x2816.Idx) (h0 : (q 0 : ℕ) = t.val * 512 + y 0) (h1 : (q 1 : ℕ) = 1024 + y 1) :
    cell ((View.ld (iblk m c 3 t) (Rect.unit (s := S3x2816) ![0, 1024] S3x1024.size inb_S3x2816_S3x1024_0_1024) : FVec Ideal S3x1024 .f32) (ix2 2 k)) ((View.ld (iblk m c 3 t) (Rect.unit (s := S3x2816) ![0, 1024] S3x1024.size inb_S3x2816_S3x1024_0_1024) : FVec Ideal S3x1024 .f32) (ix2 1 k)) ((View.ld (iblk m c 3 t) (Rect.unit (s := S3x2816) ![0, 1024] S3x1024.size inb_S3x2816_S3x1024_0_1024) : FVec Ideal S3x1024 .f32) (ix2 0 k))
      ((View.ld (iblk m c 4 t) (Rect.unit (s := S1x2816) ![0, 1024] S1x1024.size inb_S1x2816_S1x1024_0_1024) : FVec Ideal S1x1024 .f32) (ix2 0 k)) (Hand.a1 (F := Ideal) (iblk m c 0 t) (iblk m c 1 t) (iblk m c 2 t) y) (Hand.u1 (F := Ideal) (grid0.coords t) (iblk m c 0 t) (iblk m c 1 t) (iblk m c 2 t) (given m c t) y)
      (Hand.v1 (F := Ideal) (grid0.coords t) (iblk m c 0 t) (iblk m c 1 t) (iblk m c 2 t) (given m c t) y) (Hand.b1 (F := Ideal) (iblk m c 0 t) (iblk m c 1 t) (iblk m c 2 t) y) = GT m c q := by
  have hq0 : (q 0 : ℕ) < 16384 := (q 0).isLt
  have hq1 : (q 1 : ℕ) < 2816 := (q 1).isLt
  obtain_idx j : Cert.FfnRefIdeal.S16384x5632 := [(q 0 : ℕ), (q 1 : ℕ)] with hj
  obtain_idx j' : Cert.FfnRefIdeal.S16384x5632 := [(q 0 : ℕ), 2816 + (q 1 : ℕ)] with hj'
  rw [GT, ref_cell _ _ _ _ _ q j j' hj0 hj1 hj'0 hj'1, cw1_at m c t 2 k (q 1) (by omega), cw1_at m c t 1 k (q 1) (by omega), cw1_at m c t 0 k (q 1) (by omega), cb1_at m c t k (q 1) (by omega),
    a1_at m c t y j (by omega) (by omega), u1_at m c t y j (by omega) (by omega), v1_at m c t y j (by omega) (by omega), b1_at m c t y j' (by omega) (by omega)]

theorem cw2_at (c : Dev nD) (t : Fin cfg0.N) (r : Fin 3) (k : Fin 768) (q : Fin 2816) (h1 : (q : ℕ) = 2048 + k) :
    (View.ld (iblk m c 3 t) (Rect.unit (s := S3x2816) ![0, 2048] S3x768.size inb_S3x2816_S3x768_0_2048) : FVec Ideal S3x768 .f32) (ix2 r k) = (m ((c : Thread nD τ).loc main_arg3) : FVec Ideal S3x2816 .f32) (ix2 r q) := by
  blk_point [iblk, V, idx_val t]

theorem cb2_at (c : Dev nD) (t : Fin cfg0.N) (k : Fin 768) (q : Fin 2816) (h1 : (q : ℕ) = 2048 + k) :
    (View.ld (iblk m c 4 t) (Rect.unit (s := S1x2816) ![0, 2048] S1x768.size inb_S1x2816_S1x768_0_2048) : FVec Ideal S1x768 .f32) (ix2 0 k) = (m ((c : Thread nD τ).loc main_arg4) : FVec Ideal S2816 .f32) (ix1 q) := by
  blk_simp [iblk, V, idx_val t]
  pointwise

  blk_point [idx_val t]

theorem cell2_at (c : Dev nD) (t : Fin cfg0.N) (y : S512x768.Idx) (k : Fin 768) (hk : (y 1 : ℕ) = k) (q : Cert.FfnRefIdeal.S16384x2816.Idx) (h0 : (q 0 : ℕ) = t.val * 512 + y 0) (h1 : (q 1 : ℕ) = 2048 + y 1) :
    cell ((View.ld (iblk m c 3 t) (Rect.unit (s := S3x2816) ![0, 2048] S3x768.size inb_S3x2816_S3x768_0_2048) : FVec Ideal S3x768 .f32) (ix2 2 k)) ((View.ld (iblk m c 3 t) (Rect.unit (s := S3x2816) ![0, 2048] S3x768.size inb_S3x2816_S3x768_0_2048) : FVec Ideal S3x768 .f32) (ix2 1 k)) ((View.ld (iblk m c 3 t) (Rect.unit (s := S3x2816) ![0, 2048] S3x768.size inb_S3x2816_S3x768_0_2048) : FVec Ideal S3x768 .f32) (ix2 0 k))
      ((View.ld (iblk m c 4 t) (Rect.unit (s := S1x2816) ![0, 2048] S1x768.size inb_S1x2816_S1x768_0_2048) : FVec Ideal S1x768 .f32) (ix2 0 k)) (Hand.a2 (F := Ideal) (iblk m c 0 t) (iblk m c 1 t) (iblk m c 2 t) y) (Hand.u2 (F := Ideal) (grid0.coords t) (iblk m c 0 t) (iblk m c 1 t) (iblk m c 2 t) (given m c t) y)
      (Hand.v2 (F := Ideal) (grid0.coords t) (iblk m c 0 t) (iblk m c 1 t) (iblk m c 2 t) (given m c t) y) (Hand.b2 (F := Ideal) (iblk m c 0 t) (iblk m c 1 t) (iblk m c 2 t) y) = GT m c q := by
  have hq0 : (q 0 : ℕ) < 16384 := (q 0).isLt
  have hq1 : (q 1 : ℕ) < 2816 := (q 1).isLt
  obtain_idx j : Cert.FfnRefIdeal.S16384x5632 := [(q 0 : ℕ), (q 1 : ℕ)] with hj
  obtain_idx j' : Cert.FfnRefIdeal.S16384x5632 := [(q 0 : ℕ), 2816 + (q 1 : ℕ)] with hj'
  rw [GT, ref_cell _ _ _ _ _ q j j' hj0 hj1 hj'0 hj'1, cw2_at m c t 2 k (q 1) (by omega), cw2_at m c t 1 k (q 1) (by omega), cw2_at m c t 0 k (q 1) (by omega), cb2_at m c t k (q 1) (by omega),
    a2_at m c t y j (by omega) (by omega), u2_at m c t y j (by omega) (by omega), v2_at m c t y j (by omega) (by omega), b2_at m c t y j' (by omega) (by omega)]

end Cert.FfnIdeal.Eq

end
-- ==== Proof.FfnIdeal.Value.lean ====
/-
  The values of `FfnIdeal`: the array that its run leaves is the one the reference computes.
-/
module

public import proofs.«01_k».proof.Proof.FfnIdeal.Cells
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.FfnIdeal.Eq

open Cert.FfnIdeal Cert.FfnIdeal.Gen Cert.FfnIdeal.Hand Cert.FfnRefIdeal.Read

variable (m : (ℓ : Loc nD τ sig) → Buf (Elt Ideal) ℓ)

/-- A sum over the down projection's rows, chunk by chunk. -/
theorem sum_chunks (f : Fin 2816 → EReal) :
    ∑ k, f k = (∑ k : Fin 1024, f ⟨0 + k.val, by omega⟩ + ∑ k : Fin 1024, f ⟨1024 + k.val, by omega⟩) + ∑ k : Fin 768, f ⟨2048 + k.val, by omega⟩ := by
  have h1 := Fin.sum_univ_add (a := 2048) (b := 768) f
  have h2 := Fin.sum_univ_add (a := 1024) (b := 1024) (fun k : Fin 2048 => f (Fin.castAdd 768 k))
  refine (h1.trans (congrArg (· + _) h2)).trans (congrArg (· + _) (congrArg (· + _) (Finset.sum_congr rfl fun k _ => congrArg f (Fin.ext ?_))))
  exact (Nat.zero_add _).symm

theorem wd0_at (c : Dev nD) (t : Fin cfg0.N) (k : Fin 1024) (l : Fin 1024) (q : Fin 2816) (h1 : (q : ℕ) = 0 + k) :
    (View.ld (iblk m c 5 t) (Rect.unit (s := S2816x1024) ![0, 0] S1024x1024.size inb_S2816x1024_S1024x1024_0_0) : FVec Ideal S1024x1024 .bf16) (ix2 k l) = val_main_v54 (F := Ideal) (m ((c : Thread nD τ).loc main_arg5)) (ix2 q l) := by
  pointwise [val_main_v54]
  blk_point [iblk, V, idx_val t]

/-- Chunk 0's product is its rows' part of the reference's. -/
theorem part0_at (c : Dev nD) (t : Fin cfg0.N) (y : S512x1024.Idx) (p : Cert.FfnRefIdeal.S16384x1024.Idx) (h0 : (p 0 : ℕ) = t.val * 512 + y 0) (h1 : (p 1 : ℕ) = y 1) (k : Fin 1024) :
    cell ((View.ld (iblk m c 3 t) (Rect.unit (s := S3x2816) ![0, 0] S3x1024.size inb_S3x2816_S3x1024_0_0) : FVec Ideal S3x1024 .f32) (ix2 2 k)) ((View.ld (iblk m c 3 t) (Rect.unit (s := S3x2816) ![0, 0] S3x1024.size inb_S3x2816_S3x1024_0_0) : FVec Ideal S3x1024 .f32) (ix2 1 k)) ((View.ld (iblk m c 3 t) (Rect.unit (s := S3x2816) ![0, 0] S3x1024.size inb_S3x2816_S3x1024_0_0) : FVec Ideal S3x1024 .f32) (ix2 0 k))
      ((View.ld (iblk m c 4 t) (Rect.unit (s := S1x2816) ![0, 0] S1x1024.size inb_S1x2816_S1x1024_0_0) : FVec Ideal S1x1024 .f32) (ix2 0 k)) (Hand.a0 (F := Ideal) (iblk m c 0 t) (iblk m c 1 t) (iblk m c 2 t) (ix2 (y 0) k)) (Hand.u0 (F := Ideal) (grid0.coords t) (iblk m c 0 t) (iblk m c 1 t) (iblk m c 2 t) (given m c t) (ix2 (y 0) k))
      (Hand.v0 (F := Ideal) (grid0.coords t) (iblk m c 0 t) (iblk m c 1 t) (iblk m c 2 t) (given m c t) (ix2 (y 0) k)) (Hand.b0 (F := Ideal) (iblk m c 0 t) (iblk m c 1 t) (iblk m c 2 t) (ix2 (y 0) k))
      * (View.ld (iblk m c 5 t) (Rect.unit (s := S2816x1024) ![0, 0] S1024x1024.size inb_S2816x1024_S1024x1024_0_0) : FVec Ideal S1024x1024 .bf16) (ix2 k (y 1))
    = GT m c (lidx_main_v55 p ⟨0 + k.val, by omega⟩) * val_main_v54 (F := Ideal) (m ((c : Thread nD τ).loc main_arg5)) (ridx_main_v55 p ⟨0 + k.val, by omega⟩) := by
  refine Ideal.mul_congr (cell0_at m c t (ix2 (y 0) k) k rfl _ h0 rfl) ((wd0_at m c t k (y 1) ⟨0 + k.val, by omega⟩ rfl).trans (congrArg _ (funext fun a => Fin.ext ?_)))
  fin_cases a
  · rfl
  · exact h1.symm

theorem wd1_at (c : Dev nD) (t : Fin cfg0.N) (k : Fin 1024) (l : Fin 1024) (q : Fin 2816) (h1 : (q : ℕ) = 1024 + k) :
    (View.ld (iblk m c 5 t) (Rect.unit (s := S2816x1024) ![1024, 0] S1024x1024.size inb_S2816x1024_S1024x1024_1024_0) : FVec Ideal S1024x1024 .bf16) (ix2 k l) = val_main_v54 (F := Ideal) (m ((c : Thread nD τ).loc main_arg5)) (ix2 q l) := by
  pointwise [val_main_v54]
  blk_point [iblk, V, idx_val t]

/-- Chunk 1's product is its rows' part of the reference's. -/
theorem part1_at (c : Dev nD) (t : Fin cfg0.N) (y : S512x1024.Idx) (p : Cert.FfnRefIdeal.S16384x1024.Idx) (h0 : (p 0 : ℕ) = t.val * 512 + y 0) (h1 : (p 1 : ℕ) = y 1) (k : Fin 1024) :
    cell ((View.ld (iblk m c 3 t) (Rect.unit (s := S3x2816) ![0, 1024] S3x1024.size inb_S3x2816_S3x1024_0_1024) : FVec Ideal S3x1024 .f32) (ix2 2 k)) ((View.ld (iblk m c 3 t) (Rect.unit (s := S3x2816) ![0, 1024] S3x1024.size inb_S3x2816_S3x1024_0_1024) : FVec Ideal S3x1024 .f32) (ix2 1 k)) ((View.ld (iblk m c 3 t) (Rect.unit (s := S3x2816) ![0, 1024] S3x1024.size inb_S3x2816_S3x1024_0_1024) : FVec Ideal S3x1024 .f32) (ix2 0 k))
      ((View.ld (iblk m c 4 t) (Rect.unit (s := S1x2816) ![0, 1024] S1x1024.size inb_S1x2816_S1x1024_0_1024) : FVec Ideal S1x1024 .f32) (ix2 0 k)) (Hand.a1 (F := Ideal) (iblk m c 0 t) (iblk m c 1 t) (iblk m c 2 t) (ix2 (y 0) k)) (Hand.u1 (F := Ideal) (grid0.coords t) (iblk m c 0 t) (iblk m c 1 t) (iblk m c 2 t) (given m c t) (ix2 (y 0) k))
      (Hand.v1 (F := Ideal) (grid0.coords t) (iblk m c 0 t) (iblk m c 1 t) (iblk m c 2 t) (given m c t) (ix2 (y 0) k)) (Hand.b1 (F := Ideal) (iblk m c 0 t) (iblk m c 1 t) (iblk m c 2 t) (ix2 (y 0) k))
      * (View.ld (iblk m c 5 t) (Rect.unit (s := S2816x1024) ![1024, 0] S1024x1024.size inb_S2816x1024_S1024x1024_1024_0) : FVec Ideal S1024x1024 .bf16) (ix2 k (y 1))
    = GT m c (lidx_main_v55 p ⟨1024 + k.val, by omega⟩) * val_main_v54 (F := Ideal) (m ((c : Thread nD τ).loc main_arg5)) (ridx_main_v55 p ⟨1024 + k.val, by omega⟩) := by
  refine Ideal.mul_congr (cell1_at m c t (ix2 (y 0) k) k rfl _ h0 rfl) ((wd1_at m c t k (y 1) ⟨1024 + k.val, by omega⟩ rfl).trans (congrArg _ (funext fun a => Fin.ext ?_)))
  fin_cases a
  · rfl
  · exact h1.symm

theorem wd2_at (c : Dev nD) (t : Fin cfg0.N) (k : Fin 768) (l : Fin 1024) (q : Fin 2816) (h1 : (q : ℕ) = 2048 + k) :
    (View.ld (iblk m c 5 t) (Rect.unit (s := S2816x1024) ![2048, 0] S768x1024.size inb_S2816x1024_S768x1024_2048_0) : FVec Ideal S768x1024 .bf16) (ix2 k l) = val_main_v54 (F := Ideal) (m ((c : Thread nD τ).loc main_arg5)) (ix2 q l) := by
  pointwise [val_main_v54]
  blk_point [iblk, V, idx_val t]

/-- Chunk 2's product is its rows' part of the reference's. -/
theorem part2_at (c : Dev nD) (t : Fin cfg0.N) (y : S512x1024.Idx) (p : Cert.FfnRefIdeal.S16384x1024.Idx) (h0 : (p 0 : ℕ) = t.val * 512 + y 0) (h1 : (p 1 : ℕ) = y 1) (k : Fin 768) :
    cell ((View.ld (iblk m c 3 t) (Rect.unit (s := S3x2816) ![0, 2048] S3x768.size inb_S3x2816_S3x768_0_2048) : FVec Ideal S3x768 .f32) (ix2 2 k)) ((View.ld (iblk m c 3 t) (Rect.unit (s := S3x2816) ![0, 2048] S3x768.size inb_S3x2816_S3x768_0_2048) : FVec Ideal S3x768 .f32) (ix2 1 k)) ((View.ld (iblk m c 3 t) (Rect.unit (s := S3x2816) ![0, 2048] S3x768.size inb_S3x2816_S3x768_0_2048) : FVec Ideal S3x768 .f32) (ix2 0 k))
      ((View.ld (iblk m c 4 t) (Rect.unit (s := S1x2816) ![0, 2048] S1x768.size inb_S1x2816_S1x768_0_2048) : FVec Ideal S1x768 .f32) (ix2 0 k)) (Hand.a2 (F := Ideal) (iblk m c 0 t) (iblk m c 1 t) (iblk m c 2 t) (ix2 (y 0) k)) (Hand.u2 (F := Ideal) (grid0.coords t) (iblk m c 0 t) (iblk m c 1 t) (iblk m c 2 t) (given m c t) (ix2 (y 0) k))
      (Hand.v2 (F := Ideal) (grid0.coords t) (iblk m c 0 t) (iblk m c 1 t) (iblk m c 2 t) (given m c t) (ix2 (y 0) k)) (Hand.b2 (F := Ideal) (iblk m c 0 t) (iblk m c 1 t) (iblk m c 2 t) (ix2 (y 0) k))
      * (View.ld (iblk m c 5 t) (Rect.unit (s := S2816x1024) ![2048, 0] S768x1024.size inb_S2816x1024_S768x1024_2048_0) : FVec Ideal S768x1024 .bf16) (ix2 k (y 1))
    = GT m c (lidx_main_v55 p ⟨2048 + k.val, by omega⟩) * val_main_v54 (F := Ideal) (m ((c : Thread nD τ).loc main_arg5)) (ridx_main_v55 p ⟨2048 + k.val, by omega⟩) := by
  refine Ideal.mul_congr (cell2_at m c t (ix2 (y 0) k) k rfl _ h0 rfl) ((wd2_at m c t k (y 1) ⟨2048 + k.val, by omega⟩ rfl).trans (congrArg _ (funext fun a => Fin.ext ?_)))
  fin_cases a
  · rfl
  · exact h1.symm

theorem res_at (c : Dev nD) (t : Fin cfg0.N) (y : S512x1024.Idx) (p : Cert.FfnRefIdeal.S16384x1024.Idx) (h0 : (p 0 : ℕ) = t.val * 512 + y 0) (h1 : (p 1 : ℕ) = y 1) :
    Hand.res (F := Ideal) (grid0.coords t) (iblk m c 0 t) (iblk m c 1 t) (iblk m c 2 t) (iblk m c 3 t) (iblk m c 4 t) (iblk m c 5 t) (given m c t) y = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p := by
  have hx : (View.ld (iblk m c 0 t) (Rect.unit (s := S512x1024) ![0, 0] S512x1024.size inb_S512x1024_S512x1024_0_0) : FVec Ideal S512x1024 .f32) y = (m ((c : Thread nD τ).loc main_arg0) : FVec Ideal S16384x1024 .f32) p := by
    blk_point [iblk, V, idx_val t]
  rw [val_main_v56_apply, val_main_v55_apply, sum_chunks]
  unfold Hand.res Hand.acc1 Hand.acc0
  rw [pay25_at, pay18_at, pay10_at]
  refine Ideal.add_congr hx (Ideal.add_congr (Ideal.add_congr ?_ ?_) ?_)
  · exact Finset.sum_congr rfl fun k _ => part0_at m c t y p h0 h1 k
  · exact Finset.sum_congr rfl fun k _ => part1_at m c t y p h0 h1 k
  · exact Finset.sum_congr rfl fun k _ => part2_at m c t y p h0 h1 k

theorem ssq_at (c : Dev nD) (t : Fin cfg0.N) (y : S512x1.Idx) (p : Cert.FfnRefIdeal.S16384.Idx) (h0 : (p 0 : ℕ) = t.val * 512 + y 0) :
    Hand.ssq (F := Ideal) (grid0.coords t) (iblk m c 0 t) (iblk m c 1 t) (iblk m c 2 t) (iblk m c 3 t) (iblk m c 4 t) (iblk m c 5 t) (given m c t) y = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p := by
  have e : Hand.ssq (F := Ideal) (grid0.coords t) (iblk m c 0 t) (iblk m c 1 t) (iblk m c 2 t) (iblk m c 3 t) (iblk m c 4 t) (iblk m c 5 t) (given m c t) y = ∑ k : Fin 1024, Hand.res (F := Ideal) (grid0.coords t) (iblk m c 0 t) (iblk m c 1 t) (iblk m c 2 t) (iblk m c 3 t) (iblk m c 4 t) (iblk m c 5 t) (given m c t) (ix2 (y 0) k) * Hand.res (F := Ideal) (grid0.coords t) (iblk m c 0 t) (iblk m c 1 t) (iblk m c 2 t) (iblk m c 3 t) (iblk m c 4 t) (iblk m c 5 t) (given m c t) (ix2 (y 0) k) := by
    unfold Hand.ssq Hand.res
    pointwise [k0_pay27]
  rw [e, val_main_v58_apply]
  refine (Finset.sum_congr rfl fun k _ => ?_).trans (show (∑ k : Fin 1024, val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (idx_main_v58 p k)) = _ from ?_)
  · rw [res_at m c t (ix2 (y 0) k) (idx_main_v58 p k) h0 rfl]
    rfl
  · pointwise [val_main_cst_5]

theorem out_at (c : Dev nD) (t : Fin cfg0.N) (y : S512x1024.Idx) (p : Cert.FfnRefIdeal.S16384x1024.Idx) (h0 : (p 0 : ℕ) = t.val * 512 + y 0) (h1 : (p 1 : ℕ) = y 1) :
    Hand.OUT (F := Ideal) (grid0.coords t) (iblk m c 0 t) (iblk m c 1 t) (iblk m c 2 t) (iblk m c 3 t) (iblk m c 4 t) (iblk m c 5 t) (iblk m c 6 t) (given m c t) y = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p := by
  have hg : (iblk m c 6 t : FVec Ideal S1x1024 .f32) (ix2 0 (y 1)) = (m ((c : Thread nD τ).loc main_arg6) : FVec Ideal S1024 .f32) (ix1 (p 1)) := by
    blk_simp [iblk, V, idx_val t]
    pointwise
    blk_point [idx_val t]
  unfold Hand.OUT
  rw [canon_in _ _ _ y y (Fin.forall_fin_two.2 ⟨show (y 0 : ℕ) = 0 + y 0 by omega, show (y 1 : ℕ) = 0 + y 1 by omega⟩)]
  have hr := res_at m c t y p h0 h1
  have hs := ssq_at m c t (ix2 (y 0) 0) (ix1 (p 0)) h0
  generalize Hand.res (F := Ideal) (grid0.coords t) (iblk m c 0 t) (iblk m c 1 t) (iblk m c 2 t) (iblk m c 3 t) (iblk m c 4 t) (iblk m c 5 t) (given m c t) = R at hr ⊢
  generalize Hand.ssq (F := Ideal) (grid0.coords t) (iblk m c 0 t) (iblk m c 1 t) (iblk m c 2 t) (iblk m c 3 t) (iblk m c 4 t) (iblk m c 5 t) (given m c t) = Q at hs ⊢
  pointwise [k0_pay1, k0_pay26]
  rw [hr, hs, hg]
  rw [val_main_v69_apply, val_main_v68_apply, val_main_v67_apply, val_main_v66_apply, val_main_v65_apply, val_main_v64_apply, val_main_v63_apply, val_main_v62_apply, val_main_v61_apply, val_main_v60_apply, val_main_v59_apply]
  have ei : idx_main_v59 (idx_main_v65 p) = ix1 (p 0) := by blk_ext
  have ej : idx_main_v67 (idx_main_v68 p) = ix1 (p 1) := by blk_ext
  rw [ei, ej]
  generalize val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = S
  generalize val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = T
  pointwise [val_main_cst_6, val_main_cst_7]

theorem final (c : Dev nD) : (dats m 0 c).arrAt 7 (cfgs 0).N = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  refine out_at m c t y _ ?_ ?_
  · blk_simp [idx_val t]
  · blk_simp [idx_val t]

end Cert.FfnIdeal.Eq

end
-- ==== Proof.lean ====
module

public import proofs.«01_k».proof.Defs
public import proofs.«01_k».proof.Proof.Diff.Body
public import proofs.«01_k».proof.Proof.DiffIdeal.Body
public import proofs.«01_k».proof.Proof.Inproj.Value
public import proofs.«01_k».proof.Proof.Mix.Value
public import proofs.«01_k».proof.Proof.Memkv.Value
public import proofs.«01_k».proof.Proof.CrossIdeal.Value
public import proofs.«01_k».proof.Proof.Ffn.Body
public import proofs.«01_k».proof.Proof.FfnIdeal.Body
public import proofs.«01_k».proof.Proof.FfnIdeal.Value
public import proofs.«01_k».proof.Proof.Gen.Dil.Frame
public import proofs.«01_k».proof.Proof.Gen.DilIdeal.Frame
public import proofs.«01_k».proof.Proof.Gen.Inproj.Frame
public import proofs.«01_k».proof.Proof.Gen.InprojIdeal.Frame
public import proofs.«01_k».proof.Proof.Gen.InprojRefIdeal.Run
public import proofs.«01_k».proof.Proof.Gen.InprojRefIdeal.Read
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import proofs.«01_k».proof.Proof.Gen.Memkv.Frame
public import proofs.«01_k».proof.Proof.Gen.MemkvIdeal.Frame
public import proofs.«01_k».proof.Proof.Gen.MemkvRefIdeal.Run
public import proofs.«01_k».proof.Proof.Gen.MemkvRefIdeal.Read
public import proofs.«01_k».proof.Proof.Gen.Cross.Frame
public import proofs.«01_k».proof.Proof.Gen.CrossIdeal.Frame
public import proofs.«01_k».proof.Proof.Gen.CrossRefIdeal.Run
public import proofs.«01_k».proof.Proof.Gen.CrossRefIdeal.Read
public import proofs.«01_k».proof.Proof.Gen.FfnRefIdeal.Run
public import proofs.«01_k».proof.Proof.Gen.FfnRefIdeal.Read
public import Idealize.ShloMosaic.Lib.Claim

@[expose] public section

set_option maxRecDepth 65536

namespace Cert.Proof

open Idealize Idealize.ShloMosaic Idealize.ShloMosaic.TcCoe Idealize.SL.Sem

/-- The two named constants of the differential attention. -/
theorem preserves_Diff : Cert.preserves_Diff_DiffIdeal :=
  ⟨IdealRules.named_const.statement Cert.DiffIdeal.κ "log2e" .f32 0x3FB8AA3B#32 (((Real.log 2)⁻¹ : ℝ) : EReal) rfl,
    IdealRules.named_const.statement Cert.DiffIdeal.κ "mask" .f32 0xF149F2CA#32 ⊥ rfl⟩

theorem quiescent_InprojRef : Cert.quiescent_InprojRefIdeal := fun m g _ =>
  (θ_run _ _ _).mono (fun _ h => ⟨fun c => (h c).2.2, sem_eq_zero_of_no_sems rfl _⟩) (Cert.InprojRefIdeal.Value.run m g)

theorem quiescent_MixRef : Cert.quiescent_MixRefIdeal := fun m g _ =>
  (θ_run _ _ _).mono (fun _ h => ⟨fun c => (h c).2, sem_eq_zero_of_no_sems rfl _⟩) (Cert.MixRefIdeal.Value.run m g)

theorem quiescent_MemkvRef : Cert.quiescent_MemkvRefIdeal := fun m g _ =>
  (θ_run _ _ _).mono (fun _ h => ⟨fun c => (h c).2.2, sem_eq_zero_of_no_sems rfl _⟩) (Cert.MemkvRefIdeal.Value.run m g)

theorem quiescent_CrossRef : Cert.quiescent_CrossRefIdeal := fun m g _ =>
  (θ_run _ _ _).mono (fun _ h => ⟨fun c => (h c).2, sem_eq_zero_of_no_sems rfl _⟩) (Cert.CrossRefIdeal.Value.run m g)

theorem quiescent_FfnRef : Cert.quiescent_FfnRefIdeal := fun m g _ =>
  (θ_run _ _ _).mono (fun _ h => ⟨fun c => (h c).2, sem_eq_zero_of_no_sems rfl _⟩) (Cert.FfnRefIdeal.Value.run m g)

theorem algebraic_Inproj : Cert.algebraic_InprojIdeal_InprojRefIdeal := by
  pair_intro
  · run_from Cert.InprojIdeal.Gen.run_main m g
  · run_from Cert.InprojRefIdeal.Value.run m' g'
    · have h := hagree c
      unfold Cert.InprojRefIdeal.Value.res_main_v35
      rw [h.1, h.2.1, h.2.2.1]
      exact (Cert.InprojIdeal.Eq.final_4 m c).symm
    · exact (Cert.InprojIdeal.Eq.final_5 m c).symm

theorem algebraic_Mix : Cert.algebraic_MixIdeal_MixRefIdeal := by
  pair_intro
  · run_from Cert.MixIdeal.Gen.run_main m g
  · run_from Cert.MixRefIdeal.Value.run m' g'
    exact (Cert.MixIdeal.Eq.final m c).symm

theorem algebraic_Memkv : Cert.algebraic_MemkvIdeal_MemkvRefIdeal := by
  pair_intro
  · run_from Cert.MemkvIdeal.Gen.run_main m g
  · run_from Cert.MemkvRefIdeal.Value.run m' g'
    · exact (Cert.MemkvIdeal.Eq.final_3 m c).symm
    · exact (Cert.MemkvIdeal.Eq.final_4 m c).symm

theorem algebraic_Cross : Cert.algebraic_CrossIdeal_CrossRefIdeal_pre_finite_inputs := by
  pair_intro
  · run_from Cert.CrossIdeal.Gen.run_main m g
  · run_from Cert.CrossRefIdeal.Value.run m' g'
    have h := hagree c
    rw [Cert.CrossRefIdeal.Read.val_main_v39_eq, h.1, h.2.1, h.2.2.1, h.2.2.2.1, h.2.2.2.2.1, h.2.2.2.2.2]
    exact (Cert.CrossIdeal.Eq.final m c (hpre c)).symm

theorem algebraic_Ffn : Cert.algebraic_FfnIdeal_FfnRefIdeal := by
  pair_intro
  · run_from Cert.FfnIdeal.Hand.run_main m g
  · run_from Cert.FfnRefIdeal.Value.run m' g'
    have h := hagree c
    rw [Cert.FfnRefIdeal.Read.val_main_v69_eq, h.1, h.2.1, h.2.2.1, h.2.2.2.1, h.2.2.2.2.1, h.2.2.2.2.2.1, h.2.2.2.2.2.2]
    exact (Cert.FfnIdeal.Eq.final m c).symm

theorem claim : Cert.Claim :=
  ⟨inferInstance, inferInstance, inferInstance, inferInstance, inferInstance, inferInstance, inferInstance, inferInstance,
    inferInstance, inferInstance, inferInstance, inferInstance, inferInstance, inferInstance,
    inferInstance, inferInstance, inferInstance, inferInstance, inferInstance, inferInstance,
    fun m ρ _ => Cert.Diff.Hand.frame m ρ,
    fun m ρ _ => Cert.DiffIdeal.Hand.frame m ρ,
    fun m ρ _ => Cert.Dil.Gen.frame m ρ,
    fun m ρ _ => Cert.DilIdeal.Gen.frame m ρ,
    fun m ρ _ => Cert.Inproj.Gen.frame m ρ,
    fun m ρ _ => Cert.InprojIdeal.Gen.frame m ρ,
    quiescent_InprojRef,
    fun m ρ _ => Cert.Mix.Gen.frame m ρ,
    fun m ρ _ => Cert.MixIdeal.Gen.frame m ρ,
    quiescent_MixRef,
    fun m ρ _ => Cert.Memkv.Gen.frame m ρ,
    fun m ρ _ => Cert.MemkvIdeal.Gen.frame m ρ,
    quiescent_MemkvRef,
    fun m ρ _ => Cert.Cross.Gen.frame m ρ,
    fun m ρ _ => Cert.CrossIdeal.Gen.frame m ρ,
    fun m ρ _ => Cert.CrossIdeal.Gen.frame m ρ,
    quiescent_CrossRef,
    fun m g _ => quiescent_CrossRef m g trivial,
    fun m ρ _ => Cert.Ffn.Hand.frame m ρ,
    fun m ρ _ => Cert.FfnIdeal.Hand.frame m ρ,
    quiescent_FfnRef,
    preserves_Diff, trivial, trivial, algebraic_Inproj, trivial, algebraic_Mix, trivial, algebraic_Memkv,
    trivial, algebraic_Cross, trivial, algebraic_Ffn⟩

end Cert.Proof

end
